-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![1536, 768]⟩ ⟨2, ![12288, 768]⟩ 0 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v3) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1536x768 : Shape := ⟨2, ![1536, 768]⟩
abbrev S768x1536 : Shape := ⟨2, ![768, 1536]⟩
abbrev S12288x1536 : Shape := ⟨2, ![12288, 1536]⟩
abbrev S8x1536x768 : Shape := ⟨3, ![8, 1536, 768]⟩
abbrev S4x768x1536 : Shape := ⟨3, ![4, 768, 1536]⟩
abbrev S3x3x2 : Shape := ⟨3, ![3, 3, 2]⟩
abbrev S4 : Shape := ⟨1, ![4]⟩
abbrev S1x1536x768 : Shape := ⟨3, ![1, 1536, 768]⟩
abbrev S1x768x768 : Shape := ⟨3, ![1, 768, 768]⟩
abbrev S768x768 : Shape := ⟨2, ![768, 768]⟩
abbrev S1x768x1536 : Shape := ⟨3, ![1, 768, 1536]⟩
abbrev S1 : Shape := ⟨1, ![1]⟩
abbrev S_ : Shape := ⟨0, ![]⟩
abbrev S1x1x1 : Shape := ⟨3, ![1, 1, 1]⟩
abbrev S1x512x768 : Shape := ⟨3, ![1, 512, 768]⟩
abbrev S512x768 : Shape := ⟨2, ![512, 768]⟩

abbrev nBuf : Space → Nat
  | .hbm => 3
  | .vmem => 4
  | .smem => 0
  | _ => 0

abbrev bufTy : (tb : Table) → Fin (tcTables nBuf tb) → BufTy
  | .hbm, ⟨0, _⟩ => ⟨S1536x768, .bf16⟩
  | .hbm, ⟨1, _⟩ => ⟨S768x1536, .bf16⟩
  | .hbm, ⟨2, _⟩ => ⟨S12288x1536, .bf16⟩
  | .local _ .vmem, ⟨0, _⟩ => ⟨S1536x768, .bf16⟩
  | .local _ .vmem, ⟨1, _⟩ => ⟨S768x1536, .bf16⟩
  | .local _ .vmem, ⟨2, _⟩ => ⟨S8x1536x768, .bf16⟩
  | .local _ .vmem, ⟨3, _⟩ => ⟨S4x768x1536, .bf16⟩
  | _, _ => ⟨S1536x768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  (ofTc nBuf bufTy 1 42 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_sem0_0 : DmaSem sig := 0
abbrev cc0_sem1_0 : DmaSem sig := 1
abbrev barrier0 : Sem sig := 0

abbrev nD : Nat := 8
abbrev τ : Topo := Topo.v7x

variable {F : FTy → Type} [FloatOps F]

abbrev grid0 : Pipeline.Grid := .none

def k0_off1 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v98 : Index := Scalar.indexCast v2
  let c0_47 : Index := 0#32
  let c0_48 : Index := 0#32
  ![v98.toNat, 0, 0]
def k0_off2 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v102 : Index := Scalar.indexCast v2
  let c0_49 : Index := 0#32
  let c0_50 : Index := 0#32
  ![v102.toNat, 0, 0]
def k0_off3 (d0 : Dev nD) (c0_i32_56 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1536_i32 : BitVec 32 := 1536#32
  let v112 : BitVec 32 := Scalar.muli v2 c1536_i32
  let v113 : BitVec 32 := Scalar.addi v112 c0_i32_56
  let c0_i32_59 : BitVec 32 := 0#32
  ![v113.toNat, 0]
def k0_off4 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v119 : Index := Scalar.indexCast v2
  let c768 : Index := 768#32
  let c0_62 : Index := 0#32
  ![v119.toNat, 768, 0]
def k0_dev1 (d0 : Dev nD) : Nat :=
  let c0_i32_76 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_15 : BitVec 32 := 4#32
  let v43 : BitVec 32 := Scalar.muli v19 c4_i32_15
  let c1_i32_14 : BitVec 32 := 1#32
  let c4_i32_5 : BitVec 32 := 4#32
  let v20 : BitVec 32 := Scalar.remsi v2 c4_i32_5
  let c1_i32_12 : BitVec 32 := 1#32
  let v38 : BitVec 1 := Scalar.cmpi .eq v20 c1_i32_12
  let c2_i32_13 : BitVec 32 := 2#32
  let v39 : BitVec 1 := Scalar.cmpi .eq v20 c2_i32_13
  let v40 : BitVec 1 := Scalar.ori v38 v39
  let v41 : BitVec 32 := Scalar.extui v40
  let v42 : BitVec 32 := Scalar.subi c1_i32_14 v41
  let v44 : BitVec 32 := Scalar.addi v43 v42
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c3_i32 : BitVec 32 := 3#32
  let c2_i32_16 : BitVec 32 := 2#32
  let v45 : BitVec 32 := Scalar.muli c2_i32_16 v42
  let v46 : BitVec 32 := Scalar.subi c3_i32 v45
  let v47 : BitVec 32 := Scalar.muli v37 v46
  let v48 : BitVec 32 := Scalar.addi v44 v47
  let c1_i32_75 : BitVec 32 := 1#32
  let v137 : BitVec 32 := Scalar.muli v48 c1_i32_75
  let v138 : BitVec 32 := Scalar.addi c0_i32_76 v137
  v138.toNat
def k0_dev2 (d0 : Dev nD) : Nat :=
  let c0_i32_79 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_18 : BitVec 32 := 4#32
  let v50 : BitVec 32 := Scalar.muli v19 c4_i32_18
  let c4_i32_5 : BitVec 32 := 4#32
  let v20 : BitVec 32 := Scalar.remsi v2 c4_i32_5
  let c1_i32_12 : BitVec 32 := 1#32
  let v38 : BitVec 1 := Scalar.cmpi .eq v20 c1_i32_12
  let c2_i32_13 : BitVec 32 := 2#32
  let v39 : BitVec 1 := Scalar.cmpi .eq v20 c2_i32_13
  let v40 : BitVec 1 := Scalar.ori v38 v39
  let v41 : BitVec 32 := Scalar.extui v40
  let v51 : BitVec 32 := Scalar.addi v50 v41
  let c1_i32_17 : BitVec 32 := 1#32
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let v49 : BitVec 32 := Scalar.subi c1_i32_17 v37
  let c3_i32_20 : BitVec 32 := 3#32
  let c2_i32_19 : BitVec 32 := 2#32
  let v52 : BitVec 32 := Scalar.muli c2_i32_19 v41
  let v53 : BitVec 32 := Scalar.subi c3_i32_20 v52
  let v54 : BitVec 32 := Scalar.muli v49 v53
  let v55 : BitVec 32 := Scalar.addi v51 v54
  let c1_i32_78 : BitVec 32 := 1#32
  let v139 : BitVec 32 := Scalar.muli v55 c1_i32_78
  let v140 : BitVec 32 := Scalar.addi c0_i32_79 v139
  v140.toNat
def k0_dev3 (d0 : Dev nD) : Nat :=
  let c0_i32_82 : BitVec 32 := 0#32
  let c1_i32_21 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v56 : BitVec 32 := Scalar.subi c1_i32_21 v19
  let c4_i32_22 : BitVec 32 := 4#32
  let v57 : BitVec 32 := Scalar.muli v56 c4_i32_22
  let c4_i32_5 : BitVec 32 := 4#32
  let v20 : BitVec 32 := Scalar.remsi v2 c4_i32_5
  let c1_i32_12 : BitVec 32 := 1#32
  let v38 : BitVec 1 := Scalar.cmpi .eq v20 c1_i32_12
  let c2_i32_13 : BitVec 32 := 2#32
  let v39 : BitVec 1 := Scalar.cmpi .eq v20 c2_i32_13
  let v40 : BitVec 1 := Scalar.ori v38 v39
  let v41 : BitVec 32 := Scalar.extui v40
  let v58 : BitVec 32 := Scalar.addi v57 v41
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c3_i32_24 : BitVec 32 := 3#32
  let c2_i32_23 : BitVec 32 := 2#32
  let v59 : BitVec 32 := Scalar.muli c2_i32_23 v41
  let v60 : BitVec 32 := Scalar.subi c3_i32_24 v59
  let v61 : BitVec 32 := Scalar.muli v37 v60
  let v62 : BitVec 32 := Scalar.addi v58 v61
  let c1_i32_81 : BitVec 32 := 1#32
  let v141 : BitVec 32 := Scalar.muli v62 c1_i32_81
  let v142 : BitVec 32 := Scalar.addi c0_i32_82 v141
  v142.toNat
def k0_off5 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_92 : BitVec 32 := 0#32
  let c0_i32_93 : BitVec 32 := 0#32
  ![v2.toNat, 0, 0]
def k0_dev4 (d0 : Dev nD) : Nat :=
  let c0_i32_91 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_15 : BitVec 32 := 4#32
  let v43 : BitVec 32 := Scalar.muli v19 c4_i32_15
  let c1_i32_14 : BitVec 32 := 1#32
  let c4_i32_5 : BitVec 32 := 4#32
  let v20 : BitVec 32 := Scalar.remsi v2 c4_i32_5
  let c1_i32_12 : BitVec 32 := 1#32
  let v38 : BitVec 1 := Scalar.cmpi .eq v20 c1_i32_12
  let c2_i32_13 : BitVec 32 := 2#32
  let v39 : BitVec 1 := Scalar.cmpi .eq v20 c2_i32_13
  let v40 : BitVec 1 := Scalar.ori v38 v39
  let v41 : BitVec 32 := Scalar.extui v40
  let v42 : BitVec 32 := Scalar.subi c1_i32_14 v41
  let v44 : BitVec 32 := Scalar.addi v43 v42
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c3_i32 : BitVec 32 := 3#32
  let c2_i32_16 : BitVec 32 := 2#32
  let v45 : BitVec 32 := Scalar.muli c2_i32_16 v42
  let v46 : BitVec 32 := Scalar.subi c3_i32 v45
  let v47 : BitVec 32 := Scalar.muli v37 v46
  let v48 : BitVec 32 := Scalar.addi v44 v47
  let c1_i32_90 : BitVec 32 := 1#32
  let v143 : BitVec 32 := Scalar.muli v48 c1_i32_90
  let v144 : BitVec 32 := Scalar.addi c0_i32_91 v143
  v144.toNat
def k0_off6 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c768_i32_104 : BitVec 32 := 768#32
  let c0_i32_105 : BitVec 32 := 0#32
  ![v2.toNat, 768, 0]
def k0_dev5 (d0 : Dev nD) : Nat :=
  let c0_i32_103 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_15 : BitVec 32 := 4#32
  let v43 : BitVec 32 := Scalar.muli v19 c4_i32_15
  let c1_i32_14 : BitVec 32 := 1#32
  let c4_i32_5 : BitVec 32 := 4#32
  let v20 : BitVec 32 := Scalar.remsi v2 c4_i32_5
  let c1_i32_12 : BitVec 32 := 1#32
  let v38 : BitVec 1 := Scalar.cmpi .eq v20 c1_i32_12
  let c2_i32_13 : BitVec 32 := 2#32
  let v39 : BitVec 1 := Scalar.cmpi .eq v20 c2_i32_13
  let v40 : BitVec 1 := Scalar.ori v38 v39
  let v41 : BitVec 32 := Scalar.extui v40
  let v42 : BitVec 32 := Scalar.subi c1_i32_14 v41
  let v44 : BitVec 32 := Scalar.addi v43 v42
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c3_i32 : BitVec 32 := 3#32
  let c2_i32_16 : BitVec 32 := 2#32
  let v45 : BitVec 32 := Scalar.muli c2_i32_16 v42
  let v46 : BitVec 32 := Scalar.subi c3_i32 v45
  let v47 : BitVec 32 := Scalar.muli v37 v46
  let v48 : BitVec 32 := Scalar.addi v44 v47
  let c1_i32_102 : BitVec 32 := 1#32
  let v153 : BitVec 32 := Scalar.muli v48 c1_i32_102
  let v154 : BitVec 32 := Scalar.addi c0_i32_103 v153
  v154.toNat
def k0_dev6 (d0 : Dev nD) : Nat :=
  let c0_i32_115 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_18 : BitVec 32 := 4#32
  let v50 : BitVec 32 := Scalar.muli v19 c4_i32_18
  let c4_i32_5 : BitVec 32 := 4#32
  let v20 : BitVec 32 := Scalar.remsi v2 c4_i32_5
  let c1_i32_12 : BitVec 32 := 1#32
  let v38 : BitVec 1 := Scalar.cmpi .eq v20 c1_i32_12
  let c2_i32_13 : BitVec 32 := 2#32
  let v39 : BitVec 1 := Scalar.cmpi .eq v20 c2_i32_13
  let v40 : BitVec 1 := Scalar.ori v38 v39
  let v41 : BitVec 32 := Scalar.extui v40
  let v51 : BitVec 32 := Scalar.addi v50 v41
  let c1_i32_17 : BitVec 32 := 1#32
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let v49 : BitVec 32 := Scalar.subi c1_i32_17 v37
  let c3_i32_20 : BitVec 32 := 3#32
  let c2_i32_19 : BitVec 32 := 2#32
  let v52 : BitVec 32 := Scalar.muli c2_i32_19 v41
  let v53 : BitVec 32 := Scalar.subi c3_i32_20 v52
  let v54 : BitVec 32 := Scalar.muli v49 v53
  let v55 : BitVec 32 := Scalar.addi v51 v54
  let c1_i32_114 : BitVec 32 := 1#32
  let v163 : BitVec 32 := Scalar.muli v55 c1_i32_114
  let v164 : BitVec 32 := Scalar.addi c0_i32_115 v163
  v164.toNat
def k0_dev7 (d0 : Dev nD) : Nat :=
  let c0_i32_127 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_18 : BitVec 32 := 4#32
  let v50 : BitVec 32 := Scalar.muli v19 c4_i32_18
  let c4_i32_5 : BitVec 32 := 4#32
  let v20 : BitVec 32 := Scalar.remsi v2 c4_i32_5
  let c1_i32_12 : BitVec 32 := 1#32
  let v38 : BitVec 1 := Scalar.cmpi .eq v20 c1_i32_12
  let c2_i32_13 : BitVec 32 := 2#32
  let v39 : BitVec 1 := Scalar.cmpi .eq v20 c2_i32_13
  let v40 : BitVec 1 := Scalar.ori v38 v39
  let v41 : BitVec 32 := Scalar.extui v40
  let v51 : BitVec 32 := Scalar.addi v50 v41
  let c1_i32_17 : BitVec 32 := 1#32
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let v49 : BitVec 32 := Scalar.subi c1_i32_17 v37
  let c3_i32_20 : BitVec 32 := 3#32
  let c2_i32_19 : BitVec 32 := 2#32
  let v52 : BitVec 32 := Scalar.muli c2_i32_19 v41
  let v53 : BitVec 32 := Scalar.subi c3_i32_20 v52
  let v54 : BitVec 32 := Scalar.muli v49 v53
  let v55 : BitVec 32 := Scalar.addi v51 v54
  let c1_i32_126 : BitVec 32 := 1#32
  let v173 : BitVec 32 := Scalar.muli v55 c1_i32_126
  let v174 : BitVec 32 := Scalar.addi c0_i32_127 v173
  v174.toNat
def k0_dev8 (d0 : Dev nD) : Nat :=
  let c0_i32_139 : BitVec 32 := 0#32
  let c1_i32_21 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v56 : BitVec 32 := Scalar.subi c1_i32_21 v19
  let c4_i32_22 : BitVec 32 := 4#32
  let v57 : BitVec 32 := Scalar.muli v56 c4_i32_22
  let c4_i32_5 : BitVec 32 := 4#32
  let v20 : BitVec 32 := Scalar.remsi v2 c4_i32_5
  let c1_i32_12 : BitVec 32 := 1#32
  let v38 : BitVec 1 := Scalar.cmpi .eq v20 c1_i32_12
  let c2_i32_13 : BitVec 32 := 2#32
  let v39 : BitVec 1 := Scalar.cmpi .eq v20 c2_i32_13
  let v40 : BitVec 1 := Scalar.ori v38 v39
  let v41 : BitVec 32 := Scalar.extui v40
  let v58 : BitVec 32 := Scalar.addi v57 v41
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c3_i32_24 : BitVec 32 := 3#32
  let c2_i32_23 : BitVec 32 := 2#32
  let v59 : BitVec 32 := Scalar.muli c2_i32_23 v41
  let v60 : BitVec 32 := Scalar.subi c3_i32_24 v59
  let v61 : BitVec 32 := Scalar.muli v37 v60
  let v62 : BitVec 32 := Scalar.addi v58 v61
  let c1_i32_138 : BitVec 32 := 1#32
  let v183 : BitVec 32 := Scalar.muli v62 c1_i32_138
  let v184 : BitVec 32 := Scalar.addi c0_i32_139 v183
  v184.toNat
def k0_dev9 (d0 : Dev nD) : Nat :=
  let c0_i32_151 : BitVec 32 := 0#32
  let c1_i32_21 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v56 : BitVec 32 := Scalar.subi c1_i32_21 v19
  let c4_i32_22 : BitVec 32 := 4#32
  let v57 : BitVec 32 := Scalar.muli v56 c4_i32_22
  let c4_i32_5 : BitVec 32 := 4#32
  let v20 : BitVec 32 := Scalar.remsi v2 c4_i32_5
  let c1_i32_12 : BitVec 32 := 1#32
  let v38 : BitVec 1 := Scalar.cmpi .eq v20 c1_i32_12
  let c2_i32_13 : BitVec 32 := 2#32
  let v39 : BitVec 1 := Scalar.cmpi .eq v20 c2_i32_13
  let v40 : BitVec 1 := Scalar.ori v38 v39
  let v41 : BitVec 32 := Scalar.extui v40
  let v58 : BitVec 32 := Scalar.addi v57 v41
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c3_i32_24 : BitVec 32 := 3#32
  let c2_i32_23 : BitVec 32 := 2#32
  let v59 : BitVec 32 := Scalar.muli c2_i32_23 v41
  let v60 : BitVec 32 := Scalar.subi c3_i32_24 v59
  let v61 : BitVec 32 := Scalar.muli v37 v60
  let v62 : BitVec 32 := Scalar.addi v58 v61
  let c1_i32_150 : BitVec 32 := 1#32
  let v193 : BitVec 32 := Scalar.muli v62 c1_i32_150
  let v194 : BitVec 32 := Scalar.addi c0_i32_151 v193
  v194.toNat
def k0_off7 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_15 : BitVec 32 := 4#32
  let v43 : BitVec 32 := Scalar.muli v19 c4_i32_15
  let c1_i32_14 : BitVec 32 := 1#32
  let c4_i32_5 : BitVec 32 := 4#32
  let v20 : BitVec 32 := Scalar.remsi v2 c4_i32_5
  let c1_i32_12 : BitVec 32 := 1#32
  let v38 : BitVec 1 := Scalar.cmpi .eq v20 c1_i32_12
  let c2_i32_13 : BitVec 32 := 2#32
  let v39 : BitVec 1 := Scalar.cmpi .eq v20 c2_i32_13
  let v40 : BitVec 1 := Scalar.ori v38 v39
  let v41 : BitVec 32 := Scalar.extui v40
  let v42 : BitVec 32 := Scalar.subi c1_i32_14 v41
  let v44 : BitVec 32 := Scalar.addi v43 v42
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c3_i32 : BitVec 32 := 3#32
  let c2_i32_16 : BitVec 32 := 2#32
  let v45 : BitVec 32 := Scalar.muli c2_i32_16 v42
  let v46 : BitVec 32 := Scalar.subi c3_i32 v45
  let v47 : BitVec 32 := Scalar.muli v37 v46
  let v48 : BitVec 32 := Scalar.addi v44 v47
  let c0_i32_176 : BitVec 32 := 0#32
  let c0_i32_177 : BitVec 32 := 0#32
  ![v48.toNat, 0, 0]
def k0_dev10 (d0 : Dev nD) : Nat :=
  let c0_i32_175 : BitVec 32 := 0#32
  let c1_i32_21 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v56 : BitVec 32 := Scalar.subi c1_i32_21 v19
  let c4_i32_22 : BitVec 32 := 4#32
  let v57 : BitVec 32 := Scalar.muli v56 c4_i32_22
  let c4_i32_5 : BitVec 32 := 4#32
  let v20 : BitVec 32 := Scalar.remsi v2 c4_i32_5
  let c1_i32_12 : BitVec 32 := 1#32
  let v38 : BitVec 1 := Scalar.cmpi .eq v20 c1_i32_12
  let c2_i32_13 : BitVec 32 := 2#32
  let v39 : BitVec 1 := Scalar.cmpi .eq v20 c2_i32_13
  let v40 : BitVec 1 := Scalar.ori v38 v39
  let v41 : BitVec 32 := Scalar.extui v40
  let v58 : BitVec 32 := Scalar.addi v57 v41
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c3_i32_24 : BitVec 32 := 3#32
  let c2_i32_23 : BitVec 32 := 2#32
  let v59 : BitVec 32 := Scalar.muli c2_i32_23 v41
  let v60 : BitVec 32 := Scalar.subi c3_i32_24 v59
  let v61 : BitVec 32 := Scalar.muli v37 v60
  let v62 : BitVec 32 := Scalar.addi v58 v61
  let c1_i32_174 : BitVec 32 := 1#32
  let v211 : BitVec 32 := Scalar.muli v62 c1_i32_174
  let v212 : BitVec 32 := Scalar.addi c0_i32_175 v211
  v212.toNat
def k0_off8 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_15 : BitVec 32 := 4#32
  let v43 : BitVec 32 := Scalar.muli v19 c4_i32_15
  let c1_i32_14 : BitVec 32 := 1#32
  let c4_i32_5 : BitVec 32 := 4#32
  let v20 : BitVec 32 := Scalar.remsi v2 c4_i32_5
  let c1_i32_12 : BitVec 32 := 1#32
  let v38 : BitVec 1 := Scalar.cmpi .eq v20 c1_i32_12
  let c2_i32_13 : BitVec 32 := 2#32
  let v39 : BitVec 1 := Scalar.cmpi .eq v20 c2_i32_13
  let v40 : BitVec 1 := Scalar.ori v38 v39
  let v41 : BitVec 32 := Scalar.extui v40
  let v42 : BitVec 32 := Scalar.subi c1_i32_14 v41
  let v44 : BitVec 32 := Scalar.addi v43 v42
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c3_i32 : BitVec 32 := 3#32
  let c2_i32_16 : BitVec 32 := 2#32
  let v45 : BitVec 32 := Scalar.muli c2_i32_16 v42
  let v46 : BitVec 32 := Scalar.subi c3_i32 v45
  let v47 : BitVec 32 := Scalar.muli v37 v46
  let v48 : BitVec 32 := Scalar.addi v44 v47
  let v221 : Index := Scalar.indexCast v48
  let c0_180 : Index := 0#32
  let c0_181 : Index := 0#32
  ![v221.toNat, 0, 0]
def k0_off9 (d0 : Dev nD) (c0_i32_188 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_15 : BitVec 32 := 4#32
  let v43 : BitVec 32 := Scalar.muli v19 c4_i32_15
  let c1_i32_14 : BitVec 32 := 1#32
  let c4_i32_5 : BitVec 32 := 4#32
  let v20 : BitVec 32 := Scalar.remsi v2 c4_i32_5
  let c1_i32_12 : BitVec 32 := 1#32
  let v38 : BitVec 1 := Scalar.cmpi .eq v20 c1_i32_12
  let c2_i32_13 : BitVec 32 := 2#32
  let v39 : BitVec 1 := Scalar.cmpi .eq v20 c2_i32_13
  let v40 : BitVec 1 := Scalar.ori v38 v39
  let v41 : BitVec 32 := Scalar.extui v40
  let v42 : BitVec 32 := Scalar.subi c1_i32_14 v41
  let v44 : BitVec 32 := Scalar.addi v43 v42
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c3_i32 : BitVec 32 := 3#32
  let c2_i32_16 : BitVec 32 := 2#32
  let v45 : BitVec 32 := Scalar.muli c2_i32_16 v42
  let v46 : BitVec 32 := Scalar.subi c3_i32 v45
  let v47 : BitVec 32 := Scalar.muli v37 v46
  let v48 : BitVec 32 := Scalar.addi v44 v47
  let c1536_i32_187 : BitVec 32 := 1536#32
  let v231 : BitVec 32 := Scalar.muli v48 c1536_i32_187
  let v232 : BitVec 32 := Scalar.addi v231 c0_i32_188
  let c0_i32_191 : BitVec 32 := 0#32
  ![v232.toNat, 0]
def k0_off10 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_18 : BitVec 32 := 4#32
  let v50 : BitVec 32 := Scalar.muli v19 c4_i32_18
  let c4_i32_5 : BitVec 32 := 4#32
  let v20 : BitVec 32 := Scalar.remsi v2 c4_i32_5
  let c1_i32_12 : BitVec 32 := 1#32
  let v38 : BitVec 1 := Scalar.cmpi .eq v20 c1_i32_12
  let c2_i32_13 : BitVec 32 := 2#32
  let v39 : BitVec 1 := Scalar.cmpi .eq v20 c2_i32_13
  let v40 : BitVec 1 := Scalar.ori v38 v39
  let v41 : BitVec 32 := Scalar.extui v40
  let v51 : BitVec 32 := Scalar.addi v50 v41
  let c1_i32_17 : BitVec 32 := 1#32
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let v49 : BitVec 32 := Scalar.subi c1_i32_17 v37
  let c3_i32_20 : BitVec 32 := 3#32
  let c2_i32_19 : BitVec 32 := 2#32
  let v52 : BitVec 32 := Scalar.muli c2_i32_19 v41
  let v53 : BitVec 32 := Scalar.subi c3_i32_20 v52
  let v54 : BitVec 32 := Scalar.muli v49 v53
  let v55 : BitVec 32 := Scalar.addi v51 v54
  let c0_i32_214 : BitVec 32 := 0#32
  let c0_i32_215 : BitVec 32 := 0#32
  ![v55.toNat, 0, 0]
def k0_dev11 (d0 : Dev nD) : Nat :=
  let c0_i32_213 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_15 : BitVec 32 := 4#32
  let v43 : BitVec 32 := Scalar.muli v19 c4_i32_15
  let c1_i32_14 : BitVec 32 := 1#32
  let c4_i32_5 : BitVec 32 := 4#32
  let v20 : BitVec 32 := Scalar.remsi v2 c4_i32_5
  let c1_i32_12 : BitVec 32 := 1#32
  let v38 : BitVec 1 := Scalar.cmpi .eq v20 c1_i32_12
  let c2_i32_13 : BitVec 32 := 2#32
  let v39 : BitVec 1 := Scalar.cmpi .eq v20 c2_i32_13
  let v40 : BitVec 1 := Scalar.ori v38 v39
  let v41 : BitVec 32 := Scalar.extui v40
  let v42 : BitVec 32 := Scalar.subi c1_i32_14 v41
  let v44 : BitVec 32 := Scalar.addi v43 v42
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c3_i32 : BitVec 32 := 3#32
  let c2_i32_16 : BitVec 32 := 2#32
  let v45 : BitVec 32 := Scalar.muli c2_i32_16 v42
  let v46 : BitVec 32 := Scalar.subi c3_i32 v45
  let v47 : BitVec 32 := Scalar.muli v37 v46
  let v48 : BitVec 32 := Scalar.addi v44 v47
  let c1_i32_212 : BitVec 32 := 1#32
  let v246 : BitVec 32 := Scalar.muli v48 c1_i32_212
  let v247 : BitVec 32 := Scalar.addi c0_i32_213 v246
  v247.toNat
def k0_off11 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_18 : BitVec 32 := 4#32
  let v50 : BitVec 32 := Scalar.muli v19 c4_i32_18
  let c4_i32_5 : BitVec 32 := 4#32
  let v20 : BitVec 32 := Scalar.remsi v2 c4_i32_5
  let c1_i32_12 : BitVec 32 := 1#32
  let v38 : BitVec 1 := Scalar.cmpi .eq v20 c1_i32_12
  let c2_i32_13 : BitVec 32 := 2#32
  let v39 : BitVec 1 := Scalar.cmpi .eq v20 c2_i32_13
  let v40 : BitVec 1 := Scalar.ori v38 v39
  let v41 : BitVec 32 := Scalar.extui v40
  let v51 : BitVec 32 := Scalar.addi v50 v41
  let c1_i32_17 : BitVec 32 := 1#32
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let v49 : BitVec 32 := Scalar.subi c1_i32_17 v37
  let c3_i32_20 : BitVec 32 := 3#32
  let c2_i32_19 : BitVec 32 := 2#32
  let v52 : BitVec 32 := Scalar.muli c2_i32_19 v41
  let v53 : BitVec 32 := Scalar.subi c3_i32_20 v52
  let v54 : BitVec 32 := Scalar.muli v49 v53
  let v55 : BitVec 32 := Scalar.addi v51 v54
  let v256 : Index := Scalar.indexCast v55
  let c0_218 : Index := 0#32
  let c0_219 : Index := 0#32
  ![v256.toNat, 0, 0]
def k0_off12 (d0 : Dev nD) (c0_i32_226 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_18 : BitVec 32 := 4#32
  let v50 : BitVec 32 := Scalar.muli v19 c4_i32_18
  let c4_i32_5 : BitVec 32 := 4#32
  let v20 : BitVec 32 := Scalar.remsi v2 c4_i32_5
  let c1_i32_12 : BitVec 32 := 1#32
  let v38 : BitVec 1 := Scalar.cmpi .eq v20 c1_i32_12
  let c2_i32_13 : BitVec 32 := 2#32
  let v39 : BitVec 1 := Scalar.cmpi .eq v20 c2_i32_13
  let v40 : BitVec 1 := Scalar.ori v38 v39
  let v41 : BitVec 32 := Scalar.extui v40
  let v51 : BitVec 32 := Scalar.addi v50 v41
  let c1_i32_17 : BitVec 32 := 1#32
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let v49 : BitVec 32 := Scalar.subi c1_i32_17 v37
  let c3_i32_20 : BitVec 32 := 3#32
  let c2_i32_19 : BitVec 32 := 2#32
  let v52 : BitVec 32 := Scalar.muli c2_i32_19 v41
  let v53 : BitVec 32 := Scalar.subi c3_i32_20 v52
  let v54 : BitVec 32 := Scalar.muli v49 v53
  let v55 : BitVec 32 := Scalar.addi v51 v54
  let c1536_i32_225 : BitVec 32 := 1536#32
  let v266 : BitVec 32 := Scalar.muli v55 c1536_i32_225
  let v267 : BitVec 32 := Scalar.addi v266 c0_i32_226
  let c0_i32_229 : BitVec 32 := 0#32
  ![v267.toNat, 0]
def k0_off13 (d0 : Dev nD) : Fin 3 → Nat :=
  let c1_i32_21 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v56 : BitVec 32 := Scalar.subi c1_i32_21 v19
  let c4_i32_22 : BitVec 32 := 4#32
  let v57 : BitVec 32 := Scalar.muli v56 c4_i32_22
  let c4_i32_5 : BitVec 32 := 4#32
  let v20 : BitVec 32 := Scalar.remsi v2 c4_i32_5
  let c1_i32_12 : BitVec 32 := 1#32
  let v38 : BitVec 1 := Scalar.cmpi .eq v20 c1_i32_12
  let c2_i32_13 : BitVec 32 := 2#32
  let v39 : BitVec 1 := Scalar.cmpi .eq v20 c2_i32_13
  let v40 : BitVec 1 := Scalar.ori v38 v39
  let v41 : BitVec 32 := Scalar.extui v40
  let v58 : BitVec 32 := Scalar.addi v57 v41
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c3_i32_24 : BitVec 32 := 3#32
  let c2_i32_23 : BitVec 32 := 2#32
  let v59 : BitVec 32 := Scalar.muli c2_i32_23 v41
  let v60 : BitVec 32 := Scalar.subi c3_i32_24 v59
  let v61 : BitVec 32 := Scalar.muli v37 v60
  let v62 : BitVec 32 := Scalar.addi v58 v61
  let c0_i32_252 : BitVec 32 := 0#32
  let c0_i32_253 : BitVec 32 := 0#32
  ![v62.toNat, 0, 0]
def k0_dev12 (d0 : Dev nD) : Nat :=
  let c0_i32_251 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_18 : BitVec 32 := 4#32
  let v50 : BitVec 32 := Scalar.muli v19 c4_i32_18
  let c4_i32_5 : BitVec 32 := 4#32
  let v20 : BitVec 32 := Scalar.remsi v2 c4_i32_5
  let c1_i32_12 : BitVec 32 := 1#32
  let v38 : BitVec 1 := Scalar.cmpi .eq v20 c1_i32_12
  let c2_i32_13 : BitVec 32 := 2#32
  let v39 : BitVec 1 := Scalar.cmpi .eq v20 c2_i32_13
  let v40 : BitVec 1 := Scalar.ori v38 v39
  let v41 : BitVec 32 := Scalar.extui v40
  let v51 : BitVec 32 := Scalar.addi v50 v41
  let c1_i32_17 : BitVec 32 := 1#32
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let v49 : BitVec 32 := Scalar.subi c1_i32_17 v37
  let c3_i32_20 : BitVec 32 := 3#32
  let c2_i32_19 : BitVec 32 := 2#32
  let v52 : BitVec 32 := Scalar.muli c2_i32_19 v41
  let v53 : BitVec 32 := Scalar.subi c3_i32_20 v52
  let v54 : BitVec 32 := Scalar.muli v49 v53
  let v55 : BitVec 32 := Scalar.addi v51 v54
  let c1_i32_250 : BitVec 32 := 1#32
  let v281 : BitVec 32 := Scalar.muli v55 c1_i32_250
  let v282 : BitVec 32 := Scalar.addi c0_i32_251 v281
  v282.toNat
def k0_off14 (d0 : Dev nD) : Fin 3 → Nat :=
  let c1_i32_21 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v56 : BitVec 32 := Scalar.subi c1_i32_21 v19
  let c4_i32_22 : BitVec 32 := 4#32
  let v57 : BitVec 32 := Scalar.muli v56 c4_i32_22
  let c4_i32_5 : BitVec 32 := 4#32
  let v20 : BitVec 32 := Scalar.remsi v2 c4_i32_5
  let c1_i32_12 : BitVec 32 := 1#32
  let v38 : BitVec 1 := Scalar.cmpi .eq v20 c1_i32_12
  let c2_i32_13 : BitVec 32 := 2#32
  let v39 : BitVec 1 := Scalar.cmpi .eq v20 c2_i32_13
  let v40 : BitVec 1 := Scalar.ori v38 v39
  let v41 : BitVec 32 := Scalar.extui v40
  let v58 : BitVec 32 := Scalar.addi v57 v41
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c3_i32_24 : BitVec 32 := 3#32
  let c2_i32_23 : BitVec 32 := 2#32
  let v59 : BitVec 32 := Scalar.muli c2_i32_23 v41
  let v60 : BitVec 32 := Scalar.subi c3_i32_24 v59
  let v61 : BitVec 32 := Scalar.muli v37 v60
  let v62 : BitVec 32 := Scalar.addi v58 v61
  let v296 : Index := Scalar.indexCast v62
  let c0_261 : Index := 0#32
  let c0_262 : Index := 0#32
  ![v296.toNat, 0, 0]
def k0_off15 (d0 : Dev nD) (c0_i32_270 : BitVec 32) : Fin 2 → Nat :=
  let c1_i32_21 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v56 : BitVec 32 := Scalar.subi c1_i32_21 v19
  let c4_i32_22 : BitVec 32 := 4#32
  let v57 : BitVec 32 := Scalar.muli v56 c4_i32_22
  let c4_i32_5 : BitVec 32 := 4#32
  let v20 : BitVec 32 := Scalar.remsi v2 c4_i32_5
  let c1_i32_12 : BitVec 32 := 1#32
  let v38 : BitVec 1 := Scalar.cmpi .eq v20 c1_i32_12
  let c2_i32_13 : BitVec 32 := 2#32
  let v39 : BitVec 1 := Scalar.cmpi .eq v20 c2_i32_13
  let v40 : BitVec 1 := Scalar.ori v38 v39
  let v41 : BitVec 32 := Scalar.extui v40
  let v58 : BitVec 32 := Scalar.addi v57 v41
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c3_i32_24 : BitVec 32 := 3#32
  let c2_i32_23 : BitVec 32 := 2#32
  let v59 : BitVec 32 := Scalar.muli c2_i32_23 v41
  let v60 : BitVec 32 := Scalar.subi c3_i32_24 v59
  let v61 : BitVec 32 := Scalar.muli v37 v60
  let v62 : BitVec 32 := Scalar.addi v58 v61
  let c1536_i32_269 : BitVec 32 := 1536#32
  let v306 : BitVec 32 := Scalar.muli v62 c1536_i32_269
  let v307 : BitVec 32 := Scalar.addi v306 c0_i32_270
  let c0_i32_273 : BitVec 32 := 0#32
  ![v307.toNat, 0]
def k0_off16 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_15 : BitVec 32 := 4#32
  let v43 : BitVec 32 := Scalar.muli v19 c4_i32_15
  let c1_i32_14 : BitVec 32 := 1#32
  let c4_i32_5 : BitVec 32 := 4#32
  let v20 : BitVec 32 := Scalar.remsi v2 c4_i32_5
  let c1_i32_12 : BitVec 32 := 1#32
  let v38 : BitVec 1 := Scalar.cmpi .eq v20 c1_i32_12
  let c2_i32_13 : BitVec 32 := 2#32
  let v39 : BitVec 1 := Scalar.cmpi .eq v20 c2_i32_13
  let v40 : BitVec 1 := Scalar.ori v38 v39
  let v41 : BitVec 32 := Scalar.extui v40
  let v42 : BitVec 32 := Scalar.subi c1_i32_14 v41
  let v44 : BitVec 32 := Scalar.addi v43 v42
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c3_i32 : BitVec 32 := 3#32
  let c2_i32_16 : BitVec 32 := 2#32
  let v45 : BitVec 32 := Scalar.muli c2_i32_16 v42
  let v46 : BitVec 32 := Scalar.subi c3_i32 v45
  let v47 : BitVec 32 := Scalar.muli v37 v46
  let v48 : BitVec 32 := Scalar.addi v44 v47
  let c768_i32_296 : BitVec 32 := 768#32
  let c0_i32_297 : BitVec 32 := 0#32
  ![v48.toNat, 768, 0]
def k0_dev13 (d0 : Dev nD) : Nat :=
  let c0_i32_295 : BitVec 32 := 0#32
  let c1_i32_21 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v56 : BitVec 32 := Scalar.subi c1_i32_21 v19
  let c4_i32_22 : BitVec 32 := 4#32
  let v57 : BitVec 32 := Scalar.muli v56 c4_i32_22
  let c4_i32_5 : BitVec 32 := 4#32
  let v20 : BitVec 32 := Scalar.remsi v2 c4_i32_5
  let c1_i32_12 : BitVec 32 := 1#32
  let v38 : BitVec 1 := Scalar.cmpi .eq v20 c1_i32_12
  let c2_i32_13 : BitVec 32 := 2#32
  let v39 : BitVec 1 := Scalar.cmpi .eq v20 c2_i32_13
  let v40 : BitVec 1 := Scalar.ori v38 v39
  let v41 : BitVec 32 := Scalar.extui v40
  let v58 : BitVec 32 := Scalar.addi v57 v41
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c3_i32_24 : BitVec 32 := 3#32
  let c2_i32_23 : BitVec 32 := 2#32
  let v59 : BitVec 32 := Scalar.muli c2_i32_23 v41
  let v60 : BitVec 32 := Scalar.subi c3_i32_24 v59
  let v61 : BitVec 32 := Scalar.muli v37 v60
  let v62 : BitVec 32 := Scalar.addi v58 v61
  let c1_i32_294 : BitVec 32 := 1#32
  let v321 : BitVec 32 := Scalar.muli v62 c1_i32_294
  let v322 : BitVec 32 := Scalar.addi c0_i32_295 v321
  v322.toNat
def k0_off17 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_15 : BitVec 32 := 4#32
  let v43 : BitVec 32 := Scalar.muli v19 c4_i32_15
  let c1_i32_14 : BitVec 32 := 1#32
  let c4_i32_5 : BitVec 32 := 4#32
  let v20 : BitVec 32 := Scalar.remsi v2 c4_i32_5
  let c1_i32_12 : BitVec 32 := 1#32
  let v38 : BitVec 1 := Scalar.cmpi .eq v20 c1_i32_12
  let c2_i32_13 : BitVec 32 := 2#32
  let v39 : BitVec 1 := Scalar.cmpi .eq v20 c2_i32_13
  let v40 : BitVec 1 := Scalar.ori v38 v39
  let v41 : BitVec 32 := Scalar.extui v40
  let v42 : BitVec 32 := Scalar.subi c1_i32_14 v41
  let v44 : BitVec 32 := Scalar.addi v43 v42
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c3_i32 : BitVec 32 := 3#32
  let c2_i32_16 : BitVec 32 := 2#32
  let v45 : BitVec 32 := Scalar.muli c2_i32_16 v42
  let v46 : BitVec 32 := Scalar.subi c3_i32 v45
  let v47 : BitVec 32 := Scalar.muli v37 v46
  let v48 : BitVec 32 := Scalar.addi v44 v47
  let v336 : Index := Scalar.indexCast v48
  let c768_305 : Index := 768#32
  let c0_306 : Index := 0#32
  ![v336.toNat, 768, 0]
def k0_off18 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_18 : BitVec 32 := 4#32
  let v50 : BitVec 32 := Scalar.muli v19 c4_i32_18
  let c4_i32_5 : BitVec 32 := 4#32
  let v20 : BitVec 32 := Scalar.remsi v2 c4_i32_5
  let c1_i32_12 : BitVec 32 := 1#32
  let v38 : BitVec 1 := Scalar.cmpi .eq v20 c1_i32_12
  let c2_i32_13 : BitVec 32 := 2#32
  let v39 : BitVec 1 := Scalar.cmpi .eq v20 c2_i32_13
  let v40 : BitVec 1 := Scalar.ori v38 v39
  let v41 : BitVec 32 := Scalar.extui v40
  let v51 : BitVec 32 := Scalar.addi v50 v41
  let c1_i32_17 : BitVec 32 := 1#32
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let v49 : BitVec 32 := Scalar.subi c1_i32_17 v37
  let c3_i32_20 : BitVec 32 := 3#32
  let c2_i32_19 : BitVec 32 := 2#32
  let v52 : BitVec 32 := Scalar.muli c2_i32_19 v41
  let v53 : BitVec 32 := Scalar.subi c3_i32_20 v52
  let v54 : BitVec 32 := Scalar.muli v49 v53
  let v55 : BitVec 32 := Scalar.addi v51 v54
  let c768_i32_340 : BitVec 32 := 768#32
  let c0_i32_341 : BitVec 32 := 0#32
  ![v55.toNat, 768, 0]
def k0_dev14 (d0 : Dev nD) : Nat :=
  let c0_i32_339 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_15 : BitVec 32 := 4#32
  let v43 : BitVec 32 := Scalar.muli v19 c4_i32_15
  let c1_i32_14 : BitVec 32 := 1#32
  let c4_i32_5 : BitVec 32 := 4#32
  let v20 : BitVec 32 := Scalar.remsi v2 c4_i32_5
  let c1_i32_12 : BitVec 32 := 1#32
  let v38 : BitVec 1 := Scalar.cmpi .eq v20 c1_i32_12
  let c2_i32_13 : BitVec 32 := 2#32
  let v39 : BitVec 1 := Scalar.cmpi .eq v20 c2_i32_13
  let v40 : BitVec 1 := Scalar.ori v38 v39
  let v41 : BitVec 32 := Scalar.extui v40
  let v42 : BitVec 32 := Scalar.subi c1_i32_14 v41
  let v44 : BitVec 32 := Scalar.addi v43 v42
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c3_i32 : BitVec 32 := 3#32
  let c2_i32_16 : BitVec 32 := 2#32
  let v45 : BitVec 32 := Scalar.muli c2_i32_16 v42
  let v46 : BitVec 32 := Scalar.subi c3_i32 v45
  let v47 : BitVec 32 := Scalar.muli v37 v46
  let v48 : BitVec 32 := Scalar.addi v44 v47
  let c1_i32_338 : BitVec 32 := 1#32
  let v361 : BitVec 32 := Scalar.muli v48 c1_i32_338
  let v362 : BitVec 32 := Scalar.addi c0_i32_339 v361
  v362.toNat
def k0_off19 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_18 : BitVec 32 := 4#32
  let v50 : BitVec 32 := Scalar.muli v19 c4_i32_18
  let c4_i32_5 : BitVec 32 := 4#32
  let v20 : BitVec 32 := Scalar.remsi v2 c4_i32_5
  let c1_i32_12 : BitVec 32 := 1#32
  let v38 : BitVec 1 := Scalar.cmpi .eq v20 c1_i32_12
  let c2_i32_13 : BitVec 32 := 2#32
  let v39 : BitVec 1 := Scalar.cmpi .eq v20 c2_i32_13
  let v40 : BitVec 1 := Scalar.ori v38 v39
  let v41 : BitVec 32 := Scalar.extui v40
  let v51 : BitVec 32 := Scalar.addi v50 v41
  let c1_i32_17 : BitVec 32 := 1#32
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let v49 : BitVec 32 := Scalar.subi c1_i32_17 v37
  let c3_i32_20 : BitVec 32 := 3#32
  let c2_i32_19 : BitVec 32 := 2#32
  let v52 : BitVec 32 := Scalar.muli c2_i32_19 v41
  let v53 : BitVec 32 := Scalar.subi c3_i32_20 v52
  let v54 : BitVec 32 := Scalar.muli v49 v53
  let v55 : BitVec 32 := Scalar.addi v51 v54
  let v376 : Index := Scalar.indexCast v55
  let c768_349 : Index := 768#32
  let c0_350 : Index := 0#32
  ![v376.toNat, 768, 0]
def k0_off20 (d0 : Dev nD) : Fin 3 → Nat :=
  let c1_i32_21 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v56 : BitVec 32 := Scalar.subi c1_i32_21 v19
  let c4_i32_22 : BitVec 32 := 4#32
  let v57 : BitVec 32 := Scalar.muli v56 c4_i32_22
  let c4_i32_5 : BitVec 32 := 4#32
  let v20 : BitVec 32 := Scalar.remsi v2 c4_i32_5
  let c1_i32_12 : BitVec 32 := 1#32
  let v38 : BitVec 1 := Scalar.cmpi .eq v20 c1_i32_12
  let c2_i32_13 : BitVec 32 := 2#32
  let v39 : BitVec 1 := Scalar.cmpi .eq v20 c2_i32_13
  let v40 : BitVec 1 := Scalar.ori v38 v39
  let v41 : BitVec 32 := Scalar.extui v40
  let v58 : BitVec 32 := Scalar.addi v57 v41
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c3_i32_24 : BitVec 32 := 3#32
  let c2_i32_23 : BitVec 32 := 2#32
  let v59 : BitVec 32 := Scalar.muli c2_i32_23 v41
  let v60 : BitVec 32 := Scalar.subi c3_i32_24 v59
  let v61 : BitVec 32 := Scalar.muli v37 v60
  let v62 : BitVec 32 := Scalar.addi v58 v61
  let c768_i32_384 : BitVec 32 := 768#32
  let c0_i32_385 : BitVec 32 := 0#32
  ![v62.toNat, 768, 0]
def k0_dev15 (d0 : Dev nD) : Nat :=
  let c0_i32_383 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_18 : BitVec 32 := 4#32
  let v50 : BitVec 32 := Scalar.muli v19 c4_i32_18
  let c4_i32_5 : BitVec 32 := 4#32
  let v20 : BitVec 32 := Scalar.remsi v2 c4_i32_5
  let c1_i32_12 : BitVec 32 := 1#32
  let v38 : BitVec 1 := Scalar.cmpi .eq v20 c1_i32_12
  let c2_i32_13 : BitVec 32 := 2#32
  let v39 : BitVec 1 := Scalar.cmpi .eq v20 c2_i32_13
  let v40 : BitVec 1 := Scalar.ori v38 v39
  let v41 : BitVec 32 := Scalar.extui v40
  let v51 : BitVec 32 := Scalar.addi v50 v41
  let c1_i32_17 : BitVec 32 := 1#32
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let v49 : BitVec 32 := Scalar.subi c1_i32_17 v37
  let c3_i32_20 : BitVec 32 := 3#32
  let c2_i32_19 : BitVec 32 := 2#32
  let v52 : BitVec 32 := Scalar.muli c2_i32_19 v41
  let v53 : BitVec 32 := Scalar.subi c3_i32_20 v52
  let v54 : BitVec 32 := Scalar.muli v49 v53
  let v55 : BitVec 32 := Scalar.addi v51 v54
  let c1_i32_382 : BitVec 32 := 1#32
  let v401 : BitVec 32 := Scalar.muli v55 c1_i32_382
  let v402 : BitVec 32 := Scalar.addi c0_i32_383 v401
  v402.toNat
def k0_off21 (d0 : Dev nD) : Fin 3 → Nat :=
  let c1_i32_21 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v56 : BitVec 32 := Scalar.subi c1_i32_21 v19
  let c4_i32_22 : BitVec 32 := 4#32
  let v57 : BitVec 32 := Scalar.muli v56 c4_i32_22
  let c4_i32_5 : BitVec 32 := 4#32
  let v20 : BitVec 32 := Scalar.remsi v2 c4_i32_5
  let c1_i32_12 : BitVec 32 := 1#32
  let v38 : BitVec 1 := Scalar.cmpi .eq v20 c1_i32_12
  let c2_i32_13 : BitVec 32 := 2#32
  let v39 : BitVec 1 := Scalar.cmpi .eq v20 c2_i32_13
  let v40 : BitVec 1 := Scalar.ori v38 v39
  let v41 : BitVec 32 := Scalar.extui v40
  let v58 : BitVec 32 := Scalar.addi v57 v41
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c3_i32_24 : BitVec 32 := 3#32
  let c2_i32_23 : BitVec 32 := 2#32
  let v59 : BitVec 32 := Scalar.muli c2_i32_23 v41
  let v60 : BitVec 32 := Scalar.subi c3_i32_24 v59
  let v61 : BitVec 32 := Scalar.muli v37 v60
  let v62 : BitVec 32 := Scalar.addi v58 v61
  let v416 : Index := Scalar.indexCast v62
  let c768_393 : Index := 768#32
  let c0_394 : Index := 0#32
  ![v416.toNat, 768, 0]
def k0_off22 (d0 : Dev nD) : Fin 3 → Nat :=
  let c1_i32_36 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v80 : BitVec 32 := Scalar.subi c1_i32_36 v19
  let c4_i32_37 : BitVec 32 := 4#32
  let v81 : BitVec 32 := Scalar.muli v80 c4_i32_37
  let c4_i32_5 : BitVec 32 := 4#32
  let v20 : BitVec 32 := Scalar.remsi v2 c4_i32_5
  let c1_i32_12 : BitVec 32 := 1#32
  let v38 : BitVec 1 := Scalar.cmpi .eq v20 c1_i32_12
  let c2_i32_13 : BitVec 32 := 2#32
  let v39 : BitVec 1 := Scalar.cmpi .eq v20 c2_i32_13
  let v40 : BitVec 1 := Scalar.ori v38 v39
  let v41 : BitVec 32 := Scalar.extui v40
  let v82 : BitVec 32 := Scalar.addi v81 v41
  let c1_i32_35 : BitVec 32 := 1#32
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let v79 : BitVec 32 := Scalar.subi c1_i32_35 v37
  let c3_i32_39 : BitVec 32 := 3#32
  let c2_i32_38 : BitVec 32 := 2#32
  let v83 : BitVec 32 := Scalar.muli c2_i32_38 v41
  let v84 : BitVec 32 := Scalar.subi c3_i32_39 v83
  let v85 : BitVec 32 := Scalar.muli v79 v84
  let v86 : BitVec 32 := Scalar.addi v82 v85
  let c0_i32_428 : BitVec 32 := 0#32
  let c0_i32_429 : BitVec 32 := 0#32
  ![v86.toNat, 0, 0]
def k0_dev16 (d0 : Dev nD) : Nat :=
  let c0_i32_427 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_15 : BitVec 32 := 4#32
  let v43 : BitVec 32 := Scalar.muli v19 c4_i32_15
  let c1_i32_14 : BitVec 32 := 1#32
  let c4_i32_5 : BitVec 32 := 4#32
  let v20 : BitVec 32 := Scalar.remsi v2 c4_i32_5
  let c1_i32_12 : BitVec 32 := 1#32
  let v38 : BitVec 1 := Scalar.cmpi .eq v20 c1_i32_12
  let c2_i32_13 : BitVec 32 := 2#32
  let v39 : BitVec 1 := Scalar.cmpi .eq v20 c2_i32_13
  let v40 : BitVec 1 := Scalar.ori v38 v39
  let v41 : BitVec 32 := Scalar.extui v40
  let v42 : BitVec 32 := Scalar.subi c1_i32_14 v41
  let v44 : BitVec 32 := Scalar.addi v43 v42
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c3_i32 : BitVec 32 := 3#32
  let c2_i32_16 : BitVec 32 := 2#32
  let v45 : BitVec 32 := Scalar.muli c2_i32_16 v42
  let v46 : BitVec 32 := Scalar.subi c3_i32 v45
  let v47 : BitVec 32 := Scalar.muli v37 v46
  let v48 : BitVec 32 := Scalar.addi v44 v47
  let c1_i32_426 : BitVec 32 := 1#32
  let v441 : BitVec 32 := Scalar.muli v48 c1_i32_426
  let v442 : BitVec 32 := Scalar.addi c0_i32_427 v441
  v442.toNat
def k0_off23 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_27 : BitVec 32 := 4#32
  let v65 : BitVec 32 := Scalar.muli v19 c4_i32_27
  let c1_i32_25 : BitVec 32 := 1#32
  let c4_i32_5 : BitVec 32 := 4#32
  let v20 : BitVec 32 := Scalar.remsi v2 c4_i32_5
  let c1_i32_12 : BitVec 32 := 1#32
  let v38 : BitVec 1 := Scalar.cmpi .eq v20 c1_i32_12
  let c2_i32_13 : BitVec 32 := 2#32
  let v39 : BitVec 1 := Scalar.cmpi .eq v20 c2_i32_13
  let v40 : BitVec 1 := Scalar.ori v38 v39
  let v41 : BitVec 32 := Scalar.extui v40
  let v63 : BitVec 32 := Scalar.subi c1_i32_25 v41
  let v66 : BitVec 32 := Scalar.addi v65 v63
  let c1_i32_26 : BitVec 32 := 1#32
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let v64 : BitVec 32 := Scalar.subi c1_i32_26 v37
  let c3_i32_29 : BitVec 32 := 3#32
  let c2_i32_28 : BitVec 32 := 2#32
  let v67 : BitVec 32 := Scalar.muli c2_i32_28 v63
  let v68 : BitVec 32 := Scalar.subi c3_i32_29 v67
  let v69 : BitVec 32 := Scalar.muli v64 v68
  let v70 : BitVec 32 := Scalar.addi v66 v69
  let v472 : Index := Scalar.indexCast v70
  let c0_461 : Index := 0#32
  let c0_462 : Index := 0#32
  ![v472.toNat, 0, 0]
def k0_off24 (d0 : Dev nD) (c0_i32_470 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_27 : BitVec 32 := 4#32
  let v65 : BitVec 32 := Scalar.muli v19 c4_i32_27
  let c1_i32_25 : BitVec 32 := 1#32
  let c4_i32_5 : BitVec 32 := 4#32
  let v20 : BitVec 32 := Scalar.remsi v2 c4_i32_5
  let c1_i32_12 : BitVec 32 := 1#32
  let v38 : BitVec 1 := Scalar.cmpi .eq v20 c1_i32_12
  let c2_i32_13 : BitVec 32 := 2#32
  let v39 : BitVec 1 := Scalar.cmpi .eq v20 c2_i32_13
  let v40 : BitVec 1 := Scalar.ori v38 v39
  let v41 : BitVec 32 := Scalar.extui v40
  let v63 : BitVec 32 := Scalar.subi c1_i32_25 v41
  let v66 : BitVec 32 := Scalar.addi v65 v63
  let c1_i32_26 : BitVec 32 := 1#32
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let v64 : BitVec 32 := Scalar.subi c1_i32_26 v37
  let c3_i32_29 : BitVec 32 := 3#32
  let c2_i32_28 : BitVec 32 := 2#32
  let v67 : BitVec 32 := Scalar.muli c2_i32_28 v63
  let v68 : BitVec 32 := Scalar.subi c3_i32_29 v67
  let v69 : BitVec 32 := Scalar.muli v64 v68
  let v70 : BitVec 32 := Scalar.addi v66 v69
  let c1536_i32_469 : BitVec 32 := 1536#32
  let v482 : BitVec 32 := Scalar.muli v70 c1536_i32_469
  let v483 : BitVec 32 := Scalar.addi v482 c0_i32_470
  let c0_i32_473 : BitVec 32 := 0#32
  ![v483.toNat, 0]
def k0_off25 (d0 : Dev nD) : Fin 3 → Nat :=
  let c1_i32_36 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v80 : BitVec 32 := Scalar.subi c1_i32_36 v19
  let c4_i32_37 : BitVec 32 := 4#32
  let v81 : BitVec 32 := Scalar.muli v80 c4_i32_37
  let c4_i32_5 : BitVec 32 := 4#32
  let v20 : BitVec 32 := Scalar.remsi v2 c4_i32_5
  let c1_i32_12 : BitVec 32 := 1#32
  let v38 : BitVec 1 := Scalar.cmpi .eq v20 c1_i32_12
  let c2_i32_13 : BitVec 32 := 2#32
  let v39 : BitVec 1 := Scalar.cmpi .eq v20 c2_i32_13
  let v40 : BitVec 1 := Scalar.ori v38 v39
  let v41 : BitVec 32 := Scalar.extui v40
  let v82 : BitVec 32 := Scalar.addi v81 v41
  let c1_i32_35 : BitVec 32 := 1#32
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let v79 : BitVec 32 := Scalar.subi c1_i32_35 v37
  let c3_i32_39 : BitVec 32 := 3#32
  let c2_i32_38 : BitVec 32 := 2#32
  let v83 : BitVec 32 := Scalar.muli c2_i32_38 v41
  let v84 : BitVec 32 := Scalar.subi c3_i32_39 v83
  let v85 : BitVec 32 := Scalar.muli v79 v84
  let v86 : BitVec 32 := Scalar.addi v82 v85
  let v494 : Index := Scalar.indexCast v86
  let c0_481 : Index := 0#32
  let c0_482 : Index := 0#32
  ![v494.toNat, 0, 0]
def k0_off26 (d0 : Dev nD) (c0_i32_490 : BitVec 32) : Fin 2 → Nat :=
  let c1_i32_36 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v80 : BitVec 32 := Scalar.subi c1_i32_36 v19
  let c4_i32_37 : BitVec 32 := 4#32
  let v81 : BitVec 32 := Scalar.muli v80 c4_i32_37
  let c4_i32_5 : BitVec 32 := 4#32
  let v20 : BitVec 32 := Scalar.remsi v2 c4_i32_5
  let c1_i32_12 : BitVec 32 := 1#32
  let v38 : BitVec 1 := Scalar.cmpi .eq v20 c1_i32_12
  let c2_i32_13 : BitVec 32 := 2#32
  let v39 : BitVec 1 := Scalar.cmpi .eq v20 c2_i32_13
  let v40 : BitVec 1 := Scalar.ori v38 v39
  let v41 : BitVec 32 := Scalar.extui v40
  let v82 : BitVec 32 := Scalar.addi v81 v41
  let c1_i32_35 : BitVec 32 := 1#32
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let v79 : BitVec 32 := Scalar.subi c1_i32_35 v37
  let c3_i32_39 : BitVec 32 := 3#32
  let c2_i32_38 : BitVec 32 := 2#32
  let v83 : BitVec 32 := Scalar.muli c2_i32_38 v41
  let v84 : BitVec 32 := Scalar.subi c3_i32_39 v83
  let v85 : BitVec 32 := Scalar.muli v79 v84
  let v86 : BitVec 32 := Scalar.addi v82 v85
  let c1536_i32_489 : BitVec 32 := 1536#32
  let v504 : BitVec 32 := Scalar.muli v86 c1536_i32_489
  let v505 : BitVec 32 := Scalar.addi v504 c0_i32_490
  let c0_i32_493 : BitVec 32 := 0#32
  ![v505.toNat, 0]
def k0_off27 (d0 : Dev nD) : Fin 3 → Nat :=
  let c1_i32_31 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v72 : BitVec 32 := Scalar.subi c1_i32_31 v19
  let c4_i32_32 : BitVec 32 := 4#32
  let v73 : BitVec 32 := Scalar.muli v72 c4_i32_32
  let c1_i32_30 : BitVec 32 := 1#32
  let c4_i32_5 : BitVec 32 := 4#32
  let v20 : BitVec 32 := Scalar.remsi v2 c4_i32_5
  let c1_i32_12 : BitVec 32 := 1#32
  let v38 : BitVec 1 := Scalar.cmpi .eq v20 c1_i32_12
  let c2_i32_13 : BitVec 32 := 2#32
  let v39 : BitVec 1 := Scalar.cmpi .eq v20 c2_i32_13
  let v40 : BitVec 1 := Scalar.ori v38 v39
  let v41 : BitVec 32 := Scalar.extui v40
  let v71 : BitVec 32 := Scalar.subi c1_i32_30 v41
  let v74 : BitVec 32 := Scalar.addi v73 v71
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c3_i32_34 : BitVec 32 := 3#32
  let c2_i32_33 : BitVec 32 := 2#32
  let v75 : BitVec 32 := Scalar.muli c2_i32_33 v71
  let v76 : BitVec 32 := Scalar.subi c3_i32_34 v75
  let v77 : BitVec 32 := Scalar.muli v37 v76
  let v78 : BitVec 32 := Scalar.addi v74 v77
  let v516 : Index := Scalar.indexCast v78
  let c0_501 : Index := 0#32
  let c0_502 : Index := 0#32
  ![v516.toNat, 0, 0]
def k0_off28 (d0 : Dev nD) (c0_i32_510 : BitVec 32) : Fin 2 → Nat :=
  let c1_i32_31 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v72 : BitVec 32 := Scalar.subi c1_i32_31 v19
  let c4_i32_32 : BitVec 32 := 4#32
  let v73 : BitVec 32 := Scalar.muli v72 c4_i32_32
  let c1_i32_30 : BitVec 32 := 1#32
  let c4_i32_5 : BitVec 32 := 4#32
  let v20 : BitVec 32 := Scalar.remsi v2 c4_i32_5
  let c1_i32_12 : BitVec 32 := 1#32
  let v38 : BitVec 1 := Scalar.cmpi .eq v20 c1_i32_12
  let c2_i32_13 : BitVec 32 := 2#32
  let v39 : BitVec 1 := Scalar.cmpi .eq v20 c2_i32_13
  let v40 : BitVec 1 := Scalar.ori v38 v39
  let v41 : BitVec 32 := Scalar.extui v40
  let v71 : BitVec 32 := Scalar.subi c1_i32_30 v41
  let v74 : BitVec 32 := Scalar.addi v73 v71
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c3_i32_34 : BitVec 32 := 3#32
  let c2_i32_33 : BitVec 32 := 2#32
  let v75 : BitVec 32 := Scalar.muli c2_i32_33 v71
  let v76 : BitVec 32 := Scalar.subi c3_i32_34 v75
  let v77 : BitVec 32 := Scalar.muli v37 v76
  let v78 : BitVec 32 := Scalar.addi v74 v77
  let c1536_i32_509 : BitVec 32 := 1536#32
  let v526 : BitVec 32 := Scalar.muli v78 c1536_i32_509
  let v527 : BitVec 32 := Scalar.addi v526 c0_i32_510
  let c0_i32_513 : BitVec 32 := 0#32
  ![v527.toNat, 0]
def k0_off29 (d0 : Dev nD) : Fin 3 → Nat :=
  let c1_i32_31 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v72 : BitVec 32 := Scalar.subi c1_i32_31 v19
  let c4_i32_32 : BitVec 32 := 4#32
  let v73 : BitVec 32 := Scalar.muli v72 c4_i32_32
  let c1_i32_30 : BitVec 32 := 1#32
  let c4_i32_5 : BitVec 32 := 4#32
  let v20 : BitVec 32 := Scalar.remsi v2 c4_i32_5
  let c1_i32_12 : BitVec 32 := 1#32
  let v38 : BitVec 1 := Scalar.cmpi .eq v20 c1_i32_12
  let c2_i32_13 : BitVec 32 := 2#32
  let v39 : BitVec 1 := Scalar.cmpi .eq v20 c2_i32_13
  let v40 : BitVec 1 := Scalar.ori v38 v39
  let v41 : BitVec 32 := Scalar.extui v40
  let v71 : BitVec 32 := Scalar.subi c1_i32_30 v41
  let v74 : BitVec 32 := Scalar.addi v73 v71
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c3_i32_34 : BitVec 32 := 3#32
  let c2_i32_33 : BitVec 32 := 2#32
  let v75 : BitVec 32 := Scalar.muli c2_i32_33 v71
  let v76 : BitVec 32 := Scalar.subi c3_i32_34 v75
  let v77 : BitVec 32 := Scalar.muli v37 v76
  let v78 : BitVec 32 := Scalar.addi v74 v77
  let c512_i32 : BitVec 32 := 512#32
  let c0_i32_536 : BitVec 32 := 0#32
  ![v78.toNat, 512, 0]
def k0_dev17 (d0 : Dev nD) : Nat :=
  let c0_i32_535 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_18 : BitVec 32 := 4#32
  let v50 : BitVec 32 := Scalar.muli v19 c4_i32_18
  let c4_i32_5 : BitVec 32 := 4#32
  let v20 : BitVec 32 := Scalar.remsi v2 c4_i32_5
  let c1_i32_12 : BitVec 32 := 1#32
  let v38 : BitVec 1 := Scalar.cmpi .eq v20 c1_i32_12
  let c2_i32_13 : BitVec 32 := 2#32
  let v39 : BitVec 1 := Scalar.cmpi .eq v20 c2_i32_13
  let v40 : BitVec 1 := Scalar.ori v38 v39
  let v41 : BitVec 32 := Scalar.extui v40
  let v51 : BitVec 32 := Scalar.addi v50 v41
  let c1_i32_17 : BitVec 32 := 1#32
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let v49 : BitVec 32 := Scalar.subi c1_i32_17 v37
  let c3_i32_20 : BitVec 32 := 3#32
  let c2_i32_19 : BitVec 32 := 2#32
  let v52 : BitVec 32 := Scalar.muli c2_i32_19 v41
  let v53 : BitVec 32 := Scalar.subi c3_i32_20 v52
  let v54 : BitVec 32 := Scalar.muli v49 v53
  let v55 : BitVec 32 := Scalar.addi v51 v54
  let c1_i32_534 : BitVec 32 := 1#32
  let v541 : BitVec 32 := Scalar.muli v55 c1_i32_534
  let v542 : BitVec 32 := Scalar.addi c0_i32_535 v541
  v542.toNat
def k0_off30 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_27 : BitVec 32 := 4#32
  let v65 : BitVec 32 := Scalar.muli v19 c4_i32_27
  let c1_i32_25 : BitVec 32 := 1#32
  let c4_i32_5 : BitVec 32 := 4#32
  let v20 : BitVec 32 := Scalar.remsi v2 c4_i32_5
  let c1_i32_12 : BitVec 32 := 1#32
  let v38 : BitVec 1 := Scalar.cmpi .eq v20 c1_i32_12
  let c2_i32_13 : BitVec 32 := 2#32
  let v39 : BitVec 1 := Scalar.cmpi .eq v20 c2_i32_13
  let v40 : BitVec 1 := Scalar.ori v38 v39
  let v41 : BitVec 32 := Scalar.extui v40
  let v63 : BitVec 32 := Scalar.subi c1_i32_25 v41
  let v66 : BitVec 32 := Scalar.addi v65 v63
  let c1_i32_26 : BitVec 32 := 1#32
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let v64 : BitVec 32 := Scalar.subi c1_i32_26 v37
  let c3_i32_29 : BitVec 32 := 3#32
  let c2_i32_28 : BitVec 32 := 2#32
  let v67 : BitVec 32 := Scalar.muli c2_i32_28 v63
  let v68 : BitVec 32 := Scalar.subi c3_i32_29 v67
  let v69 : BitVec 32 := Scalar.muli v64 v68
  let v70 : BitVec 32 := Scalar.addi v66 v69
  let c1024_i32 : BitVec 32 := 1024#32
  let c0_i32_559 : BitVec 32 := 0#32
  ![v70.toNat, 1024, 0]
def k0_dev18 (d0 : Dev nD) : Nat :=
  let c0_i32_558 : BitVec 32 := 0#32
  let c1_i32_21 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v56 : BitVec 32 := Scalar.subi c1_i32_21 v19
  let c4_i32_22 : BitVec 32 := 4#32
  let v57 : BitVec 32 := Scalar.muli v56 c4_i32_22
  let c4_i32_5 : BitVec 32 := 4#32
  let v20 : BitVec 32 := Scalar.remsi v2 c4_i32_5
  let c1_i32_12 : BitVec 32 := 1#32
  let v38 : BitVec 1 := Scalar.cmpi .eq v20 c1_i32_12
  let c2_i32_13 : BitVec 32 := 2#32
  let v39 : BitVec 1 := Scalar.cmpi .eq v20 c2_i32_13
  let v40 : BitVec 1 := Scalar.ori v38 v39
  let v41 : BitVec 32 := Scalar.extui v40
  let v58 : BitVec 32 := Scalar.addi v57 v41
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c3_i32_24 : BitVec 32 := 3#32
  let c2_i32_23 : BitVec 32 := 2#32
  let v59 : BitVec 32 := Scalar.muli c2_i32_23 v41
  let v60 : BitVec 32 := Scalar.subi c3_i32_24 v59
  let v61 : BitVec 32 := Scalar.muli v37 v60
  let v62 : BitVec 32 := Scalar.addi v58 v61
  let c1_i32_557 : BitVec 32 := 1#32
  let v559 : BitVec 32 := Scalar.muli v62 c1_i32_557
  let v560 : BitVec 32 := Scalar.addi c0_i32_558 v559
  v560.toNat
def k0_off31 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_27 : BitVec 32 := 4#32
  let v65 : BitVec 32 := Scalar.muli v19 c4_i32_27
  let c1_i32_25 : BitVec 32 := 1#32
  let c4_i32_5 : BitVec 32 := 4#32
  let v20 : BitVec 32 := Scalar.remsi v2 c4_i32_5
  let c1_i32_12 : BitVec 32 := 1#32
  let v38 : BitVec 1 := Scalar.cmpi .eq v20 c1_i32_12
  let c2_i32_13 : BitVec 32 := 2#32
  let v39 : BitVec 1 := Scalar.cmpi .eq v20 c2_i32_13
  let v40 : BitVec 1 := Scalar.ori v38 v39
  let v41 : BitVec 32 := Scalar.extui v40
  let v63 : BitVec 32 := Scalar.subi c1_i32_25 v41
  let v66 : BitVec 32 := Scalar.addi v65 v63
  let c1_i32_26 : BitVec 32 := 1#32
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let v64 : BitVec 32 := Scalar.subi c1_i32_26 v37
  let c3_i32_29 : BitVec 32 := 3#32
  let c2_i32_28 : BitVec 32 := 2#32
  let v67 : BitVec 32 := Scalar.muli c2_i32_28 v63
  let v68 : BitVec 32 := Scalar.subi c3_i32_29 v67
  let v69 : BitVec 32 := Scalar.muli v64 v68
  let v70 : BitVec 32 := Scalar.addi v66 v69
  let v582 : Index := Scalar.indexCast v70
  let c768_579 : Index := 768#32
  let c0_580 : Index := 0#32
  ![v582.toNat, 768, 0]
def k0_off32 (d0 : Dev nD) : Fin 3 → Nat :=
  let c1_i32_36 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v80 : BitVec 32 := Scalar.subi c1_i32_36 v19
  let c4_i32_37 : BitVec 32 := 4#32
  let v81 : BitVec 32 := Scalar.muli v80 c4_i32_37
  let c4_i32_5 : BitVec 32 := 4#32
  let v20 : BitVec 32 := Scalar.remsi v2 c4_i32_5
  let c1_i32_12 : BitVec 32 := 1#32
  let v38 : BitVec 1 := Scalar.cmpi .eq v20 c1_i32_12
  let c2_i32_13 : BitVec 32 := 2#32
  let v39 : BitVec 1 := Scalar.cmpi .eq v20 c2_i32_13
  let v40 : BitVec 1 := Scalar.ori v38 v39
  let v41 : BitVec 32 := Scalar.extui v40
  let v82 : BitVec 32 := Scalar.addi v81 v41
  let c1_i32_35 : BitVec 32 := 1#32
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let v79 : BitVec 32 := Scalar.subi c1_i32_35 v37
  let c3_i32_39 : BitVec 32 := 3#32
  let c2_i32_38 : BitVec 32 := 2#32
  let v83 : BitVec 32 := Scalar.muli c2_i32_38 v41
  let v84 : BitVec 32 := Scalar.subi c3_i32_39 v83
  let v85 : BitVec 32 := Scalar.muli v79 v84
  let v86 : BitVec 32 := Scalar.addi v82 v85
  let v604 : Index := Scalar.indexCast v86
  let c768_599 : Index := 768#32
  let c0_600 : Index := 0#32
  ![v604.toNat, 768, 0]
def k0_off33 (d0 : Dev nD) : Fin 3 → Nat :=
  let c1_i32_31 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v72 : BitVec 32 := Scalar.subi c1_i32_31 v19
  let c4_i32_32 : BitVec 32 := 4#32
  let v73 : BitVec 32 := Scalar.muli v72 c4_i32_32
  let c1_i32_30 : BitVec 32 := 1#32
  let c4_i32_5 : BitVec 32 := 4#32
  let v20 : BitVec 32 := Scalar.remsi v2 c4_i32_5
  let c1_i32_12 : BitVec 32 := 1#32
  let v38 : BitVec 1 := Scalar.cmpi .eq v20 c1_i32_12
  let c2_i32_13 : BitVec 32 := 2#32
  let v39 : BitVec 1 := Scalar.cmpi .eq v20 c2_i32_13
  let v40 : BitVec 1 := Scalar.ori v38 v39
  let v41 : BitVec 32 := Scalar.extui v40
  let v71 : BitVec 32 := Scalar.subi c1_i32_30 v41
  let v74 : BitVec 32 := Scalar.addi v73 v71
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c3_i32_34 : BitVec 32 := 3#32
  let c2_i32_33 : BitVec 32 := 2#32
  let v75 : BitVec 32 := Scalar.muli c2_i32_33 v71
  let v76 : BitVec 32 := Scalar.subi c3_i32_34 v75
  let v77 : BitVec 32 := Scalar.muli v37 v76
  let v78 : BitVec 32 := Scalar.addi v74 v77
  let v626 : Index := Scalar.indexCast v78
  let c768_619 : Index := 768#32
  let c0_620 : Index := 0#32
  ![v626.toNat, 768, 0]
def k0_off34 (d0 : Dev nD) : Fin 3 → Nat :=
  let c1_i32_42 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v89 : BitVec 32 := Scalar.subi c1_i32_42 v19
  let c4_i32_43 : BitVec 32 := 4#32
  let v90 : BitVec 32 := Scalar.muli v89 c4_i32_43
  let c1_i32_40 : BitVec 32 := 1#32
  let c4_i32_5 : BitVec 32 := 4#32
  let v20 : BitVec 32 := Scalar.remsi v2 c4_i32_5
  let c1_i32_12 : BitVec 32 := 1#32
  let v38 : BitVec 1 := Scalar.cmpi .eq v20 c1_i32_12
  let c2_i32_13 : BitVec 32 := 2#32
  let v39 : BitVec 1 := Scalar.cmpi .eq v20 c2_i32_13
  let v40 : BitVec 1 := Scalar.ori v38 v39
  let v41 : BitVec 32 := Scalar.extui v40
  let v87 : BitVec 32 := Scalar.subi c1_i32_40 v41
  let v91 : BitVec 32 := Scalar.addi v90 v87
  let c1_i32_41 : BitVec 32 := 1#32
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let v88 : BitVec 32 := Scalar.subi c1_i32_41 v37
  let c3_i32_45 : BitVec 32 := 3#32
  let c2_i32_44 : BitVec 32 := 2#32
  let v92 : BitVec 32 := Scalar.muli c2_i32_44 v87
  let v93 : BitVec 32 := Scalar.subi c3_i32_45 v92
  let v94 : BitVec 32 := Scalar.muli v88 v93
  let v95 : BitVec 32 := Scalar.addi v91 v94
  let v672 : Index := Scalar.indexCast v95
  let c0_675 : Index := 0#32
  let c0_676 : Index := 0#32
  ![v672.toNat, 0, 0]
def k0_off35 (d0 : Dev nD) (c0_i32_684 : BitVec 32) : Fin 2 → Nat :=
  let c1_i32_42 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v89 : BitVec 32 := Scalar.subi c1_i32_42 v19
  let c4_i32_43 : BitVec 32 := 4#32
  let v90 : BitVec 32 := Scalar.muli v89 c4_i32_43
  let c1_i32_40 : BitVec 32 := 1#32
  let c4_i32_5 : BitVec 32 := 4#32
  let v20 : BitVec 32 := Scalar.remsi v2 c4_i32_5
  let c1_i32_12 : BitVec 32 := 1#32
  let v38 : BitVec 1 := Scalar.cmpi .eq v20 c1_i32_12
  let c2_i32_13 : BitVec 32 := 2#32
  let v39 : BitVec 1 := Scalar.cmpi .eq v20 c2_i32_13
  let v40 : BitVec 1 := Scalar.ori v38 v39
  let v41 : BitVec 32 := Scalar.extui v40
  let v87 : BitVec 32 := Scalar.subi c1_i32_40 v41
  let v91 : BitVec 32 := Scalar.addi v90 v87
  let c1_i32_41 : BitVec 32 := 1#32
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let v88 : BitVec 32 := Scalar.subi c1_i32_41 v37
  let c3_i32_45 : BitVec 32 := 3#32
  let c2_i32_44 : BitVec 32 := 2#32
  let v92 : BitVec 32 := Scalar.muli c2_i32_44 v87
  let v93 : BitVec 32 := Scalar.subi c3_i32_45 v92
  let v94 : BitVec 32 := Scalar.muli v88 v93
  let v95 : BitVec 32 := Scalar.addi v91 v94
  let c1536_i32_683 : BitVec 32 := 1536#32
  let v682 : BitVec 32 := Scalar.muli v95 c1536_i32_683
  let v683 : BitVec 32 := Scalar.addi v682 c0_i32_684
  let c0_i32_687 : BitVec 32 := 0#32
  ![v683.toNat, 0]
def k0_off36 (d0 : Dev nD) : Fin 3 → Nat :=
  let c1_i32_42 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v89 : BitVec 32 := Scalar.subi c1_i32_42 v19
  let c4_i32_43 : BitVec 32 := 4#32
  let v90 : BitVec 32 := Scalar.muli v89 c4_i32_43
  let c1_i32_40 : BitVec 32 := 1#32
  let c4_i32_5 : BitVec 32 := 4#32
  let v20 : BitVec 32 := Scalar.remsi v2 c4_i32_5
  let c1_i32_12 : BitVec 32 := 1#32
  let v38 : BitVec 1 := Scalar.cmpi .eq v20 c1_i32_12
  let c2_i32_13 : BitVec 32 := 2#32
  let v39 : BitVec 1 := Scalar.cmpi .eq v20 c2_i32_13
  let v40 : BitVec 1 := Scalar.ori v38 v39
  let v41 : BitVec 32 := Scalar.extui v40
  let v87 : BitVec 32 := Scalar.subi c1_i32_40 v41
  let v91 : BitVec 32 := Scalar.addi v90 v87
  let c1_i32_41 : BitVec 32 := 1#32
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let v88 : BitVec 32 := Scalar.subi c1_i32_41 v37
  let c3_i32_45 : BitVec 32 := 3#32
  let c2_i32_44 : BitVec 32 := 2#32
  let v92 : BitVec 32 := Scalar.muli c2_i32_44 v87
  let v93 : BitVec 32 := Scalar.subi c3_i32_45 v92
  let v94 : BitVec 32 := Scalar.muli v88 v93
  let v95 : BitVec 32 := Scalar.addi v91 v94
  let v694 : Index := Scalar.indexCast v95
  let c768_695 : Index := 768#32
  let c0_696 : Index := 0#32
  ![v694.toNat, 768, 0]
abbrev stage0_0 : Fin 1 → Memref sig .tc .vmem S1536x768 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S768x1536 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S12288x768 : Shape := ⟨2, ![12288, 768]⟩
abbrev S768x1536 : Shape := ⟨2, ![768, 1536]⟩
abbrev S12288x1536 : Shape := ⟨2, ![12288, 1536]⟩

abbrev nBuf : Space → Nat
  | .hbm => 6
  | .vmem => 0
  | .smem => 0
  | _ => 0

abbrev bufTy : (tb : Table) → Fin (tcTables nBuf tb) → BufTy
  | .hbm, ⟨0, _⟩ => ⟨S12288x768, .bf16⟩
  | .hbm, ⟨1, _⟩ => ⟨S768x1536, .bf16⟩
  | .hbm, ⟨2, _⟩ => ⟨S12288x768, .f32⟩
  | .hbm, ⟨3, _⟩ => ⟨S768x1536, .f32⟩
  | .hbm, ⟨4, _⟩ => ⟨S12288x1536, .f32⟩
  | .hbm, ⟨5, _⟩ => ⟨S12288x1536, .bf16⟩
  | _, _ => ⟨S12288x768, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Proof.Cube.lean ====
/-
The cube of devices: the eight devices are the corners of a cube, and each talks to three
neighbours. Which device and which rows every transfer of the kernel names.
-/
module

public import proofs.«01_k».proof.Proof.Gen.KernelIdeal
public import proofs.«01_k».proof.Proof.Gen.KernelIdeal.Skeleton

@[expose] public section

namespace Cert.Gather

open Cert.KernelIdeal Cert.KernelIdeal.Gen
open Idealize.ShloMosaic

/-- The device reached from `c` by flipping the bits of `t`. -/
def hop (t : Fin 8) (c : Dev nD) : Dev nD :=
  ⟨(c.val ^^^ t.val) % 8, Nat.mod_lt _ (by decide)⟩

/-- The bits that lead over each of the three links: its neighbours are `hop (tag l) c`. -/
def tag (l : Fin 3) : Fin 8 := match l with | 0 => 1 | 1 => 3 | 2 => 4

/-- Flipping the same bits twice leads back. -/
theorem hop_hop (t : Fin 8) (c : Dev nD) : hop t (hop t c) = c := by revert t c; decide +kernel
/-- Flipping no bits stays. -/
theorem hop_zero : ∀ c : Dev nD, hop 0 c = c := by decide +kernel
/-- Flipping bits is injective in the device. -/
theorem hop_inj (t : Fin 8) {c d : Dev nD} (h : hop t c = hop t d) : c = d := by
  rw [← hop_hop t c, h, hop_hop]
/-- And in the bits. -/
theorem hop_tag_inj {t t' : Fin 8} (c : Dev nD) (h : hop t c = hop t' c) : t = t' := by
  revert t t' c; decide +kernel
/-- Every device is reached from every other. -/
theorem hop_surj (c j : Dev nD) : ∃ t : Fin 8, j = hop t c := by revert c j; decide +kernel

/-- The sum of two sets of bits. -/
def plus (s t : Fin 8) : Fin 8 := ⟨(s.val ^^^ t.val) % 8, Nat.mod_lt _ (by decide)⟩
/-- Two flips are one flip of the sum of their bits. -/
theorem hop_plus (s t : Fin 8) (c : Dev nD) : hop s (hop t c) = hop (plus s t) c := by
  revert s t c; decide +kernel

/-- Flipping the bits `t` pairs the devices off. -/
def hopEquiv (t : Fin 8) : Dev nD ≃ Dev nD := ⟨hop t, hop t, hop_hop t, hop_hop t⟩

/-! ## The transfers: `i = 6 p + 2 l + h` for phase `p`, link `l`, half `h` -/

/-- The transfer's phase, link and half. -/
def ph (i : Fin 18) : ℕ := i.val / 6
/-- The link that the transfer takes. -/
def lnk (i : Fin 18) : Fin 3 := ⟨i.val / 2 % 3, Nat.mod_lt _ (by decide)⟩

/-- Which transfers the kernel makes: the last phase has one per link. -/
def used (i : Fin 18) : Bool := decide (i.val < 12) || decide (i.val % 2 = 0)

/-- The bits from the sender to the chunk that the transfer carries. -/
def srcTag (i : Fin 18) : Fin 8 :=
  ![0, 0, 0, 0, 0, 0, 3, 3, 4, 4, 1, 1, 7, 7, 5, 5, 2, 2] i
/-- The bits from the receiver to that chunk. -/
def dstTag (i : Fin 18) : Fin 8 := plus (srcTag i) (tag (lnk i))
/-- The first row of the chunk that it carries, and how many rows. -/
def row0 (i : Fin 18) : ℕ :=
  ![0, 768, 0, 768, 0, 768, 0, 768, 0, 768, 0, 768, 0, 0, 512, 512, 1024, 1024] i
/-- How many rows it carries. -/
def nrows (i : Fin 18) : ℕ := if i.val < 12 then 768 else 512
/-- The device the transfer goes to. -/
def peer (i : Fin 18) (c : Dev nD) : Dev nD := hop (tag (lnk i)) c

/-- The peer of the peer is the device itself. -/
theorem peer_peer (i : Fin 18) (c : Dev nD) : peer i (peer i c) = c := hop_hop _ _
/-- The chunk that the peer sends is the chunk that the device receives. -/
theorem src_peer (i : Fin 18) (c : Dev nD) : hop (srcTag i) (peer i c) = hop (dstTag i) c := hop_plus _ _ _
/-- The chunk that the peer receives is the chunk that the device sends. -/
theorem dst_peer (i : Fin 18) (c : Dev nD) : hop (dstTag i) (peer i c) = hop (srcTag i) c := by
  revert i c; decide +kernel

/-- The transfers in the order in which the body starts them. -/
def sends : List (Fin 18) := [0, 1, 2, 3, 4, 5, 10, 6, 8, 11, 7, 9, 12, 14, 16]

/-! ## The devices and offsets that the kernel's words name -/

/-- The device that word 1 names. -/
theorem dev1_eq : ∀ c : Dev nD, (⟨k0_dev1 c, k0_dev1_lt c⟩ : Dev nD) = hop (tag 0) c := by decide +kernel
/-- The device that word 2 names. -/
theorem dev2_eq : ∀ c : Dev nD, (⟨k0_dev2 c, k0_dev2_lt c⟩ : Dev nD) = hop (tag 1) c := by decide +kernel
/-- The device that word 3 names. -/
theorem dev3_eq : ∀ c : Dev nD, (⟨k0_dev3 c, k0_dev3_lt c⟩ : Dev nD) = hop (tag 2) c := by decide +kernel
/-- The device that word 4 names. -/
theorem dev4_eq : ∀ c : Dev nD, (⟨k0_dev4 c, k0_dev4_lt c⟩ : Dev nD) = hop (tag 0) c := by decide +kernel
/-- The device that word 5 names. -/
theorem dev5_eq : ∀ c : Dev nD, (⟨k0_dev5 c, k0_dev5_lt c⟩ : Dev nD) = hop (tag 0) c := by decide +kernel
/-- The device that word 6 names. -/
theorem dev6_eq : ∀ c : Dev nD, (⟨k0_dev6 c, k0_dev6_lt c⟩ : Dev nD) = hop (tag 1) c := by decide +kernel
/-- The device that word 7 names. -/
theorem dev7_eq : ∀ c : Dev nD, (⟨k0_dev7 c, k0_dev7_lt c⟩ : Dev nD) = hop (tag 1) c := by decide +kernel
/-- The device that word 8 names. -/
theorem dev8_eq : ∀ c : Dev nD, (⟨k0_dev8 c, k0_dev8_lt c⟩ : Dev nD) = hop (tag 2) c := by decide +kernel
/-- The device that word 9 names. -/
theorem dev9_eq : ∀ c : Dev nD, (⟨k0_dev9 c, k0_dev9_lt c⟩ : Dev nD) = hop (tag 2) c := by decide +kernel
/-- The device that word 10 names. -/
theorem dev10_eq : ∀ c : Dev nD, (⟨k0_dev10 c, k0_dev10_lt c⟩ : Dev nD) = hop (tag 2) c := by decide +kernel
/-- The device that word 11 names. -/
theorem dev11_eq : ∀ c : Dev nD, (⟨k0_dev11 c, k0_dev11_lt c⟩ : Dev nD) = hop (tag 0) c := by decide +kernel
/-- The device that word 12 names. -/
theorem dev12_eq : ∀ c : Dev nD, (⟨k0_dev12 c, k0_dev12_lt c⟩ : Dev nD) = hop (tag 1) c := by decide +kernel
/-- The device that word 13 names. -/
theorem dev13_eq : ∀ c : Dev nD, (⟨k0_dev13 c, k0_dev13_lt c⟩ : Dev nD) = hop (tag 2) c := by decide +kernel
/-- The device that word 14 names. -/
theorem dev14_eq : ∀ c : Dev nD, (⟨k0_dev14 c, k0_dev14_lt c⟩ : Dev nD) = hop (tag 0) c := by decide +kernel
/-- The device that word 15 names. -/
theorem dev15_eq : ∀ c : Dev nD, (⟨k0_dev15 c, k0_dev15_lt c⟩ : Dev nD) = hop (tag 1) c := by decide +kernel
/-- The device that word 16 names. -/
theorem dev16_eq : ∀ c : Dev nD, (⟨k0_dev16 c, k0_dev16_lt c⟩ : Dev nD) = hop (tag 0) c := by decide +kernel
/-- The device that word 17 names. -/
theorem dev17_eq : ∀ c : Dev nD, (⟨k0_dev17 c, k0_dev17_lt c⟩ : Dev nD) = hop (tag 1) c := by decide +kernel
/-- The device that word 18 names. -/
theorem dev18_eq : ∀ c : Dev nD, (⟨k0_dev18 c, k0_dev18_lt c⟩ : Dev nD) = hop (tag 2) c := by decide +kernel
/-- Where offset 1 points. -/
theorem off1_eq : ∀ c : Dev nD, k0_off1 c = ![(hop 0 c).val, 0, 0] := by decide +kernel
/-- Where offset 2 points. -/
theorem off2_eq : ∀ c : Dev nD, k0_off2 c = ![(hop 0 c).val, 0, 0] := by decide +kernel
/-- Where offset 4 points. -/
theorem off4_eq : ∀ c : Dev nD, k0_off4 c = ![(hop 0 c).val, 768, 0] := by decide +kernel
/-- Where offset 5 points. -/
theorem off5_eq : ∀ c : Dev nD, k0_off5 c = ![(hop 0 c).val, 0, 0] := by decide +kernel
/-- Where offset 6 points. -/
theorem off6_eq : ∀ c : Dev nD, k0_off6 c = ![(hop 0 c).val, 768, 0] := by decide +kernel
/-- Where offset 7 points. -/
theorem off7_eq : ∀ c : Dev nD, k0_off7 c = ![(hop 1 c).val, 0, 0] := by decide +kernel
/-- Where offset 8 points. -/
theorem off8_eq : ∀ c : Dev nD, k0_off8 c = ![(hop 1 c).val, 0, 0] := by decide +kernel
/-- Where offset 10 points. -/
theorem off10_eq : ∀ c : Dev nD, k0_off10 c = ![(hop 3 c).val, 0, 0] := by decide +kernel
/-- Where offset 11 points. -/
theorem off11_eq : ∀ c : Dev nD, k0_off11 c = ![(hop 3 c).val, 0, 0] := by decide +kernel
/-- Where offset 13 points. -/
theorem off13_eq : ∀ c : Dev nD, k0_off13 c = ![(hop 4 c).val, 0, 0] := by decide +kernel
/-- Where offset 14 points. -/
theorem off14_eq : ∀ c : Dev nD, k0_off14 c = ![(hop 4 c).val, 0, 0] := by decide +kernel
/-- Where offset 16 points. -/
theorem off16_eq : ∀ c : Dev nD, k0_off16 c = ![(hop 1 c).val, 768, 0] := by decide +kernel
/-- Where offset 17 points. -/
theorem off17_eq : ∀ c : Dev nD, k0_off17 c = ![(hop 1 c).val, 768, 0] := by decide +kernel
/-- Where offset 18 points. -/
theorem off18_eq : ∀ c : Dev nD, k0_off18 c = ![(hop 3 c).val, 768, 0] := by decide +kernel
/-- Where offset 19 points. -/
theorem off19_eq : ∀ c : Dev nD, k0_off19 c = ![(hop 3 c).val, 768, 0] := by decide +kernel
/-- Where offset 20 points. -/
theorem off20_eq : ∀ c : Dev nD, k0_off20 c = ![(hop 4 c).val, 768, 0] := by decide +kernel
/-- Where offset 21 points. -/
theorem off21_eq : ∀ c : Dev nD, k0_off21 c = ![(hop 4 c).val, 768, 0] := by decide +kernel
/-- Where offset 22 points. -/
theorem off22_eq : ∀ c : Dev nD, k0_off22 c = ![(hop 7 c).val, 0, 0] := by decide +kernel
/-- Where offset 23 points. -/
theorem off23_eq : ∀ c : Dev nD, k0_off23 c = ![(hop 2 c).val, 0, 0] := by decide +kernel
/-- Where offset 25 points. -/
theorem off25_eq : ∀ c : Dev nD, k0_off25 c = ![(hop 7 c).val, 0, 0] := by decide +kernel
/-- Where offset 27 points. -/
theorem off27_eq : ∀ c : Dev nD, k0_off27 c = ![(hop 5 c).val, 0, 0] := by decide +kernel
/-- Where offset 29 points. -/
theorem off29_eq : ∀ c : Dev nD, k0_off29 c = ![(hop 5 c).val, 512, 0] := by decide +kernel
/-- Where offset 30 points. -/
theorem off30_eq : ∀ c : Dev nD, k0_off30 c = ![(hop 2 c).val, 1024, 0] := by decide +kernel
/-- Where offset 31 points. -/
theorem off31_eq : ∀ c : Dev nD, k0_off31 c = ![(hop 2 c).val, 768, 0] := by decide +kernel
/-- Where offset 32 points. -/
theorem off32_eq : ∀ c : Dev nD, k0_off32 c = ![(hop 7 c).val, 768, 0] := by decide +kernel
/-- Where offset 33 points. -/
theorem off33_eq : ∀ c : Dev nD, k0_off33 c = ![(hop 5 c).val, 768, 0] := by decide +kernel
/-- Where offset 34 points. -/
theorem off34_eq : ∀ c : Dev nD, k0_off34 c = ![(hop 6 c).val, 0, 0] := by decide +kernel
/-- Where offset 36 points. -/
theorem off36_eq : ∀ c : Dev nD, k0_off36 c = ![(hop 6 c).val, 768, 0] := by decide +kernel
/-- Where offset 3 points, in the lower half. -/
theorem off3_eq0 : ∀ c : Dev nD, k0_off3 c 0#32 = ![1536 * (hop 0 c).val + 0, 0] := by decide +kernel
/-- Where offset 3 points, in the upper half. -/
theorem off3_eq1 : ∀ c : Dev nD, k0_off3 c 768#32 = ![1536 * (hop 0 c).val + 768, 0] := by decide +kernel
/-- Where offset 9 points, in the lower half. -/
theorem off9_eq0 : ∀ c : Dev nD, k0_off9 c 0#32 = ![1536 * (hop 1 c).val + 0, 0] := by decide +kernel
/-- Where offset 9 points, in the upper half. -/
theorem off9_eq1 : ∀ c : Dev nD, k0_off9 c 768#32 = ![1536 * (hop 1 c).val + 768, 0] := by decide +kernel
/-- Where offset 12 points, in the lower half. -/
theorem off12_eq0 : ∀ c : Dev nD, k0_off12 c 0#32 = ![1536 * (hop 3 c).val + 0, 0] := by decide +kernel
/-- Where offset 12 points, in the upper half. -/
theorem off12_eq1 : ∀ c : Dev nD, k0_off12 c 768#32 = ![1536 * (hop 3 c).val + 768, 0] := by decide +kernel
/-- Where offset 15 points, in the lower half. -/
theorem off15_eq0 : ∀ c : Dev nD, k0_off15 c 0#32 = ![1536 * (hop 4 c).val + 0, 0] := by decide +kernel
/-- Where offset 15 points, in the upper half. -/
theorem off15_eq1 : ∀ c : Dev nD, k0_off15 c 768#32 = ![1536 * (hop 4 c).val + 768, 0] := by decide +kernel
/-- Where offset 24 points, in the lower half. -/
theorem off24_eq0 : ∀ c : Dev nD, k0_off24 c 0#32 = ![1536 * (hop 2 c).val + 0, 0] := by decide +kernel
/-- Where offset 24 points, in the upper half. -/
theorem off24_eq1 : ∀ c : Dev nD, k0_off24 c 768#32 = ![1536 * (hop 2 c).val + 768, 0] := by decide +kernel
/-- Where offset 26 points, in the lower half. -/
theorem off26_eq0 : ∀ c : Dev nD, k0_off26 c 0#32 = ![1536 * (hop 7 c).val + 0, 0] := by decide +kernel
/-- Where offset 26 points, in the upper half. -/
theorem off26_eq1 : ∀ c : Dev nD, k0_off26 c 768#32 = ![1536 * (hop 7 c).val + 768, 0] := by decide +kernel
/-- Where offset 28 points, in the lower half. -/
theorem off28_eq0 : ∀ c : Dev nD, k0_off28 c 0#32 = ![1536 * (hop 5 c).val + 0, 0] := by decide +kernel
/-- Where offset 28 points, in the upper half. -/
theorem off28_eq1 : ∀ c : Dev nD, k0_off28 c 768#32 = ![1536 * (hop 5 c).val + 768, 0] := by decide +kernel
/-- Where offset 35 points, in the lower half. -/
theorem off35_eq0 : ∀ c : Dev nD, k0_off35 c 0#32 = ![1536 * (hop 6 c).val + 0, 0] := by decide +kernel
/-- Where offset 35 points, in the upper half. -/
theorem off35_eq1 : ∀ c : Dev nD, k0_off35 c 768#32 = ![1536 * (hop 6 c).val + 768, 0] := by decide +kernel

end Cert.Gather
-- ==== Proof.Memory.lean ====
/-
What the buffers hold: the gathered array, the staged products, the result, and the pieces of
them that the kernel's loads, stores and copies touch.
-/
module

public import proofs.«01_k».proof.Proof.Cube
public import proofs.«01_k».proof.Proof.Gen.KernelIdeal.Launch
public import Idealize.ShloMosaic.Lib.Pipeline.Launch
public import Idealize.ShloMosaic.Lib.Pipeline.Kit
public import Idealize.ShloMosaic.Lib.Pipeline.Value
public import Idealize.ShloMosaic.Lib.ValueLayout
public import Idealize.ShloMosaic.Lib.Tactic

@[expose] public section

noncomputable section

namespace Cert.Gather

open Cert.KernelIdeal Cert.KernelIdeal.Gen
open Idealize.ShloMosaic Idealize.ShloMosaic.ValueIdx
open Idealize.ShloMosaic.TcCoe

variable {F : FTy → Type} [FloatOps F]
variable (m : (ℓ : Loc nD τ sig) → Buf (Elt F) ℓ)

/-! ## The buffers -/

/-- The staged left operand. -/
abbrev aM : Memref sig .tc .vmem S1536x768 .bf16 := Memref.whole cc0_stg0_0
/-- The staged right operand. -/
abbrev bM : Memref sig .tc .vmem S768x1536 .bf16 := Memref.whole cc0_stg1_0
/-- The result. -/
abbrev oM : Memref sig .tc .hbm S12288x1536 .bf16 := Memref.whole main_v1
/-- The gathered array. -/
abbrev gM : Memref sig .tc .vmem S8x1536x768 .bf16 := Memref.whole cc0_scratch0
/-- The stage buffer. -/
abbrev sM : Memref sig .tc .vmem S4x768x1536 .bf16 := Memref.whole cc0_scratch1

/-! ## Contents -/

/-- Device `c`'s rows of the left operand, as the pipeline stages them. -/
def aAt (c : Dev nD) : (cc0_stg0_0 : Ref sig .tc).ty.Contents (Elt F) :=
  (win0_0.blk (0 : Fin 1)).view.read (Elt F) (m ((c : Thread nD τ).loc main_arg0))
/-- Device `c`'s copy of the right operand, as the pipeline stages it. -/
def bAt (c : Dev nD) : (cc0_stg1_0 : Ref sig .tc).ty.Contents (Elt F) :=
  (win0_1.blk (0 : Fin 1)).view.read (Elt F) (m ((c : Thread nD τ).loc main_arg1))

/-- The gathered array: chunk `j` is device `j`'s rows. -/
def gath : (cc0_scratch0 : Ref sig .tc).ty.Contents (Elt F) :=
  fun x : S8x1536x768.Idx => (aAt m ⟨(x 0).val, (x 0).isLt⟩ : S1536x768.Idx → Elt F .bf16) (ix2 (x 1) (x 2))

/-- Rows `lo ≤ r < lo + 768` of chunk `j`, as a load reads them. -/
def part (j : Dev nD) (lo : ℕ) (h : lo + 768 ≤ 1536) : Vec F S1x768x768 .bf16 :=
  fun x => (gath m : S8x1536x768.Idx → Elt F .bf16)
    (ix3 ⟨j.val, j.isLt⟩ ⟨lo + (x 1).val, by have : (x 1).val < 768 := (x 1).isLt; omega⟩ (x 2))

/-- The result on device `c`: each run of 768 rows is the product of a half chunk and the right
    operand. -/
def prod (c : Dev nD) : (main_v1 : Ref sig .tc).ty.Contents (Elt F) :=
  fun y : S12288x1536.Idx =>
    k0_pay2 (part m ⟨(y 0).val / 1536, by have : (y 0).val < 12288 := (y 0).isLt; show _ < 8; omega⟩
        (768 * ((y 0).val / 768 % 2)) (by omega)) (bAt m c)
      (ix3 (0 : Fin 1) ⟨(y 0).val % 768, Nat.mod_lt _ (by decide)⟩ (y 1) : S1x768x1536.Idx)

/-! ## Pieces -/

/-- Rows `lo ≤ r < lo + n` of chunk `j` of the gathered array. -/
def rows (j : Dev nD) (lo n : ℕ) : Finset S8x1536x768.Idx :=
  Finset.univ.filter fun x => (x 0).val = j.val ∧ lo ≤ (x 1).val ∧ (x 1).val < lo + n
/-- Slot `s` of the staging buffer. -/
def slot (s : Fin 4) : Finset S4x768x1536.Idx := Finset.univ.filter fun x => (x 0).val = s.val
/-- Rows `lo ≤ r < lo + 768` of the result. -/
def band (lo : ℕ) : Finset S12288x1536.Idx :=
  Finset.univ.filter fun x => lo ≤ (x 0).val ∧ (x 0).val < lo + 768

/-- When an index lies in a piece of the gathered array. -/
theorem mem_rows {j lo n} {x : S8x1536x768.Idx} :
    x ∈ rows j lo n ↔ (x 0).val = j.val ∧ lo ≤ (x 1).val ∧ (x 1).val < lo + n := by simp [rows]
/-- When an index lies in a slot. -/
theorem mem_slot {s} {x : S4x768x1536.Idx} : x ∈ slot s ↔ (x 0).val = s.val := by simp [slot]
/-- When an index lies in a band of the result. -/
theorem mem_band {lo} {x : S12288x1536.Idx} : x ∈ band lo ↔ lo ≤ (x 0).val ∧ (x 0).val < lo + 768 := by
  simp [band]

/-- The printed rectangle of some rows of a chunk is that piece of the gathered array. -/
theorem rect_rows {j : Dev nD} {lo n : ℕ}
    (inb : ∀ a, (![j.val, lo, 0] : Fin 3 → ℕ) a + (⟨3, ![1, n, 768]⟩ : Shape).size a ≤ S8x1536x768.size a) :
    (Rect.unit (s := S8x1536x768) ![j.val, lo, 0] (⟨3, ![1, n, 768]⟩ : Shape).size inb).set = rows j lo n := by
  ext x
  rw [Rect.mem_set_unit, mem_rows]
  have h2 : (x 2).val < 768 := (x 2).isLt
  constructor
  · intro h
    have h0 := h 0; have h1 := h 1
    simp at h0 h1
    exact ⟨by omega, h1.1, h1.2⟩
  · rintro ⟨h0, h1, h1'⟩ a
    fin_cases a
    · simp; omega
    · simp; omega
    · simp; omega

/-- The printed rectangle of a slot is that slot. -/
theorem rect_slot {s : Fin 4}
    (inb : ∀ a, (![s.val, 0, 0] : Fin 3 → ℕ) a + S1x768x1536.size a ≤ S4x768x1536.size a) :
    (Rect.unit (s := S4x768x1536) ![s.val, 0, 0] S1x768x1536.size inb).set = slot s := by
  ext x
  rw [Rect.mem_set_unit, mem_slot]
  have h1 : (x 1).val < 768 := (x 1).isLt
  have h2 : (x 2).val < 1536 := (x 2).isLt
  constructor
  · intro h
    have h0 := h 0
    simp at h0
    omega
  · intro h0 a
    fin_cases a
    · simp; omega
    · simp; omega
    · simp; omega

/-- The printed rectangle of 768 rows of the result is that band. -/
theorem rect_band {lo : ℕ}
    (inb : ∀ a, (![lo, 0] : Fin 2 → ℕ) a + S768x1536.size a ≤ S12288x1536.size a) :
    (Rect.unit (s := S12288x1536) ![lo, 0] S768x1536.size inb).set = band lo := by
  ext x
  rw [Rect.mem_set_unit, mem_band]
  have h1 : (x 1).val < 1536 := (x 1).isLt
  constructor
  · intro h
    have h0 := h 0
    simp at h0
    omega
  · intro h0 a
    fin_cases a
    · simp; omega
    · simp; omega

/-! ## What the loads read and the stores leave -/

/-- Where a unit-stride rectangle places an index. -/
theorem unit_emb {s : Shape} {off size : Fin s.rank → ℕ} (inb) (x) (a : Fin s.rank) :
    ((Rect.unit (s := s) off size inb).emb x a).val = off a + (x a).val := by
  show off a + 1 * (x a).val = _
  omega

/-- A load of a half chunk of the gathered array. -/
theorem read_part {j : Dev nD} {lo : ℕ} (h : lo + 768 ≤ 1536)
    (inb : ∀ a, (![j.val, lo, 0] : Fin 3 → ℕ) a + S1x768x768.size a ≤ S8x1536x768.size a) :
    gM.view.readAt (Elt F) (Rect.unit (s := S8x1536x768) ![j.val, lo, 0] S1x768x768.size inb).toLoadRect (gath m)
      = part m j lo h := by
  funext x
  show gath m _ = gath m _
  congr 1
  funext a
  apply Fin.ext
  have h0 : (x 0).val < 1 := (x 0).isLt
  refine (unit_emb (s := S8x1536x768) inb x a).trans ?_
  fin_cases a
  · show j.val + (x 0).val = j.val
    omega
  · rfl
  · show 0 + (x 2).val = (x 2).val
    omega

/-- The zero offset in two dimensions. -/
theorem two_zeros : (![0, 0] : Fin 2 → Nat) = fun _ => 0 := funext fun a => by fin_cases a <;> rfl

/-- A load of the whole left operand. -/
theorem read_a (inb : ∀ a, (![0, 0] : Fin 2 → ℕ) a + S1536x768.size a ≤ S1536x768.size a)
    (f : (cc0_stg0_0 : Ref sig .tc).ty.Contents (Elt F)) :
    aM.view.readAt (Elt F) (Rect.unit (s := S1536x768) ![0, 0] S1536x768.size inb).toLoadRect f = f :=
  Memref.readAt_unit_zero (Elt F) cc0_stg0_0 two_zeros _ f
/-- A load of the whole right operand. -/
theorem read_b (inb : ∀ a, (![0, 0] : Fin 2 → ℕ) a + S768x1536.size a ≤ S768x1536.size a)
    (f : (cc0_stg1_0 : Ref sig .tc).ty.Contents (Elt F)) :
    bM.view.readAt (Elt F) (Rect.unit (s := S768x1536) ![0, 0] S768x1536.size inb).toLoadRect f = f :=
  Memref.readAt_unit_zero (Elt F) cc0_stg1_0 two_zeros _ f

/-- Storing a device's own rows in its own chunk leaves the gathered array there. -/
theorem write_own (c : Dev nD)
    (inb : ∀ a, (![c.val, 0, 0] : Fin 3 → ℕ) a + S1x1536x768.size a ≤ S8x1536x768.size a)
    (f : (cc0_scratch0 : Ref sig .tc).ty.Contents (Elt F)) (x : S8x1536x768.Idx) (hx : x ∈ rows c 0 1536) :
    (gM.access (Rect.unit (s := S8x1536x768) ![c.val, 0, 0] S1x1536x768.size inb)).write (Elt F) f
      (k0_pay1 (aAt m c)) Finset.univ x = gath m x := by
  rw [mem_rows] at hx
  have h1 : (x 1).val < 1536 := (x 1).isLt
  have he : x = (gM.access (Rect.unit (s := S8x1536x768) ![c.val, 0, 0] S1x1536x768.size inb)).emb
      (ix3 (0 : Fin 1) (x 1) (x 2) : S1x1536x768.Idx) := by
    funext a
    apply Fin.ext
    refine Eq.trans ?_ (unit_emb (s := S8x1536x768) inb _ a).symm
    fin_cases a
    · exact hx.1
    · exact (Nat.zero_add _).symm
    · exact (Nat.zero_add _).symm
  conv_lhs => rw [he]
  rw [View.write_emb_of_mem _ _ (Finset.mem_univ _)]
  show k0_pay1 (aAt m c) (ix3 (0 : Fin 1) (x 1) (x 2)) = gath m x
  unfold k0_pay1 gath
  have hc : (⟨(x 0).val, (x 0).isLt⟩ : Dev nD) = c := Fin.ext hx.1
  rw [hc]
  refine (shapeCast_ab_1ab_apply (a := 1536) (b := 768) _ _ _ _ _).trans ?_
  unfold shapeCast
  rw [Shape.reshapeEquiv_self]

/-- The same, with the chunk given by an equation. -/
theorem write_own' (c j : Dev nD) (hj : j = c)
    (inb : ∀ a, (![j.val, 0, 0] : Fin 3 → ℕ) a + S1x1536x768.size a ≤ S8x1536x768.size a)
    (f : (cc0_scratch0 : Ref sig .tc).ty.Contents (Elt F)) (x : S8x1536x768.Idx) (hx : x ∈ rows j 0 1536) :
    (gM.access (Rect.unit (s := S8x1536x768) ![j.val, 0, 0] S1x1536x768.size inb)).write (Elt F) f
      (k0_pay1 (aAt m c)) Finset.univ x = gath m x := by
  subst hj
  exact write_own m j inb f x hx

/-- Copying a piece of the gathered array onto the same piece leaves the gathered array there. -/
theorem write_landed {S2 : Shape} (v : View sig .tc .vmem S2 .bf16) (f g : v.ty.Contents (Elt F))
    (i : v.ty.Idx) (hi : i ∈ v.set) : v.write (Elt F) f (v.read (Elt F) g) Finset.univ i = g i := by
  rw [View.write_read_eq_piecewise]
  exact Finset.piecewise_eq_of_mem _ _ _ hi

/-- Copying a stored product of half a chunk to its rows of the result. -/
theorem write_prod (c j : Dev nD) (h : Fin 2) (s : Fin 4)
    (inbs : ∀ a, (![s.val, 0, 0] : Fin 3 → ℕ) a + S1x768x1536.size a ≤ S4x768x1536.size a)
    (inbo : ∀ a, (![1536 * j.val + 768 * h.val, 0] : Fin 2 → ℕ) a + S768x1536.size a ≤ S12288x1536.size a)
    (hh : 768 * h.val + 768 ≤ 1536)
    (hst : ∀ a, (Rect.unit (s := S4x768x1536) ![s.val, 0, 0] S1x768x1536.size inbs).stride a = 1)
    (hso : ∀ a, (Rect.unit (s := S12288x1536) ![1536 * j.val + 768 * h.val, 0] S768x1536.size inbo).stride a = 1)
    (hq : S1x768x1536.Squeezes S768x1536)
    (f : (cc0_scratch1 : Ref sig .tc).ty.Contents (Elt F)) (fo : (main_v1 : Ref sig .tc).ty.Contents (Elt F))
    (y : S12288x1536.Idx) (hy : y ∈ band (1536 * j.val + 768 * h.val)) :
    (oM.slice (Rect.unit (s := S12288x1536) ![1536 * j.val + 768 * h.val, 0] S768x1536.size inbo) hso).view.write (Elt F) fo
      (((sM.slice (Rect.unit (s := S4x768x1536) ![s.val, 0, 0] S1x768x1536.size inbs) hst).squeeze S768x1536 hq).view.read (Elt F)
        ((sM.access (Rect.unit (s := S4x768x1536) ![s.val, 0, 0] S1x768x1536.size inbs)).write (Elt F) f
          (k0_pay2 (part m j (768 * h.val) hh) (bAt m c)) Finset.univ)) Finset.univ y = prod m c y := by
  rw [mem_band] at hy
  have h1 : (y 1).val < 1536 := (y 1).isLt
  have hh2 : h.val < 2 := h.isLt
  have hr : (y 0).val % 768 = (y 0).val - (1536 * j.val + 768 * h.val) := by omega
  have he : y = (oM.slice (Rect.unit (s := S12288x1536) ![1536 * j.val + 768 * h.val, 0] S768x1536.size inbo) hso).view.emb
      (ix2 ⟨(y 0).val % 768, Nat.mod_lt _ (by decide)⟩ (y 1) : S768x1536.Idx) := by
    funext a
    apply Fin.ext
    refine Eq.trans ?_ (unit_emb (s := S12288x1536) inbo _ a).symm
    fin_cases a
    · show (y 0).val = (1536 * j.val + 768 * h.val) + (y 0).val % 768
      omega
    · exact (Nat.zero_add _).symm
  conv_lhs => rw [he]
  rw [View.write_emb_of_mem _ _ (Finset.mem_univ _)]
  rw [Memref.read_squeeze_slice sM _ hst hq hq.numel_eq, View.readAt_rect]
  refine (cast_eq _ _).trans ?_
  refine (shapeCast_1ab_ab_apply (a := 768) (b := 1536) _ _ _ _).trans ?_
  refine (congrFun (View.read_write_univ (v := sM.access (Rect.unit (s := S4x768x1536) ![s.val, 0, 0] S1x768x1536.size inbs))
    f (k0_pay2 (part m j (768 * h.val) hh) (bAt m c))) _).trans ?_
  unfold prod
  have hj : (y 0).val / 1536 = j.val := by omega
  have hl : 768 * ((y 0).val / 768 % 2) = 768 * h.val := by omega
  congr 2
  congr 1
  · exact (Fin.ext hj).symm
  · exact hl.symm

end Cert.Gather

end
-- ==== Proof.Schedule.lean ====
/-
The protocol: for each semaphore who signals it, how much, and what the signal hands over.
-/
module

public import proofs.«01_k».proof.Proof.Memory

@[expose] public section

noncomputable section

namespace Cert.Gather

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The protocol's ghost state: rounds over the cells, duties named by `Fin 3`. -/
abbrev UB : Type := URounds (GSem nD τ sig) (Fin 3)
/-- Beside it the pipeline's own and the counters of the local copies. -/
abbrev UU : Type := UR sig nD τ × (UB × Counters)

local notation "𝕄" => MT nD τ sig Unit (Elt F) ℕ UU ℕ

/-- Where the pipeline's ghost state sits. -/
abbrev EP : Emb (UR sig nD τ) (MT nD τ sig Unit (Elt F) ℕ UU ℕ) := embL
/-- Where the protocol's ghost state sits. -/
abbrev ER : Emb UB (MT nD τ sig Unit (Elt F) ℕ UU ℕ) := (Emb.inl : Emb UB (UB × Counters)).trans embR
/-- Where the local copies' counters sit. -/
abbrev EC : UEmb Counters (MT nD τ sig Unit (Elt F) ℕ UU ℕ) := countersEmb

variable (m : (ℓ : Loc nD τ sig) → Buf (Elt F) ℓ)

/-! ## Cells -/

/-- The barrier semaphore. -/
abbrev barS : Sem sig := (SemArray.scalar (sig.barrier 0 rfl) : Sems sig S_).sem
/-- The semaphores a transfer raises at its sender and at its receiver. -/
def sendS (i : Fin 18) : DmaSem sig := (⟨2 + i.val, by omega⟩ : Fin 42)
/-- The semaphore that a transfer raises at its receiver. -/
def recvS (i : Fin 18) : DmaSem sig := (⟨20 + i.val, by omega⟩ : Fin 42)
/-- The semaphores of the copies out of the staging buffer. -/
def copyS (s : Fin 4) : DmaSem sig := (⟨38 + s.val, by omega⟩ : Fin 42)

/-- The barrier's cell on `c`. -/
abbrev barCell (c : Dev nD) : GSem nD τ sig := ((c : Thread nD τ), .reg barS)
/-- The send cell of transfer `i` on `c`. -/
abbrev sendCell (c : Dev nD) (i : Fin 18) : GSem nD τ sig := ((c : Thread nD τ), .dma (sendS i))
/-- The receive cell of transfer `i` on `c`. -/
abbrev recvCell (c : Dev nD) (i : Fin 18) : GSem nD τ sig := ((c : Thread nD τ), .dma (recvS i))
/-- The cell of the copy out of slot `s` on `c`. -/
abbrev copyCell (c : Dev nD) (s : Fin 4) : GSem nD τ sig := ((c : Thread nD τ), .dma (copyS s))

/-- What a semaphore is for. -/
inductive Role where
  | bar
  | snd (i : Fin 18)
  | rcv (i : Fin 18)
  | other
  deriving DecidableEq

/-- The role of each semaphore. -/
def role : SemLoc sig → Role
  | .reg s => if s = barS then .bar else .other
  | .dma q => if h : 2 ≤ (q : Fin 42).val ∧ (q : Fin 42).val < 20 then .snd ⟨(q : Fin 42).val - 2, by omega⟩
      else if h : 20 ≤ (q : Fin 42).val ∧ (q : Fin 42).val < 38 then .rcv ⟨(q : Fin 42).val - 20, by omega⟩
      else .other

/-- The barrier's role. -/
theorem role_bar : role (.reg barS) = .bar := by unfold role; exact if_pos rfl
/-- A send semaphore's role. -/
theorem role_send : ∀ i, role (.dma (sendS i)) = .snd i := by decide
/-- A receive semaphore's role. -/
theorem role_recv : ∀ i, role (.dma (recvS i)) = .rcv i := by decide
/-- The protocol leaves the local copies' semaphores alone. -/
theorem role_copy : ∀ s, role (.dma (copyS s)) = .other := by decide

/-- What a transfer credits. -/
def amt (i : Fin 18) : ℕ :=
  if i.val < 12 then (cc0_scratch0 : Ref sig .tc).dmaCredit S768x768 .bf16
  else (cc0_scratch0 : Ref sig .tc).dmaCredit S512x768 .bf16
/-- Every transfer credits something. -/
theorem amt_pos (i : Fin 18) : 0 < amt i := by
  unfold amt
  split
  · exact View.dmaCredit_pos ((gM.slice (Rect.unit (s := S8x1536x768) ![0, 0, 0] S1x768x768.size (by decide)) (fun _ => rfl)).squeeze S768x768 squeezes_S1x768x768_S768x768).view (by decide)
  · exact View.dmaCredit_pos ((gM.slice (Rect.unit (s := S8x1536x768) ![0, 0, 0] S1x512x768.size (by decide)) (fun _ => rfl)).squeeze S512x768 squeezes_S1x512x768_S512x768).view (by decide)

/-! ## What is handed over -/

/-- A piece of device `c`'s gathered array. -/
def gPts (c : Dev nD) (j : Dev nD) (lo n : ℕ) (q : PosShare TreeShare) (f : (cc0_scratch0 : Ref sig .tc).ty.Contents (Elt F)) : sProp 𝕄 :=
  ((c : Thread nD τ).loc cc0_scratch0) ↦[rows j lo n]{q} f

/-- A piece of the gathered array can be kept by a cell. -/
instance gPts_storable (c j lo n q f) : BI.Storable (upEmb : UEmb _ 𝕄) (gPts (F := F) c j lo n q f) := by
  unfold gPts; infer_instance

/-- The share of its source that a transfer borrows. -/
def lent (i : Fin 18) : PosShare TreeShare :=
  if i.val < 6 then
    match lnk i with
    | 0 => fullShare.left
    | 1 => fullShare.right.left
    | 2 => fullShare.right.right
  else fullShare.right

/-- The place where the transfer that `c` sends is to land. -/
def landing (c : Dev nD) (i : Fin 18) : sProp 𝕄 :=
  iprop(∃ f, gPts (peer i c) (hop (srcTag i) c) (row0 i) (nrows i) fullShare f)
/-- What a completed transfer gives back to its sender `c`. -/
def sendPay (c : Dev nD) (i : Fin 18) : sProp 𝕄 :=
  gPts c (hop (srcTag i) c) (row0 i) (nrows i) (lent i) (gath m)
/-- What a completed transfer gives its receiver `c`. -/
def recvPay (c : Dev nD) (i : Fin 18) : sProp 𝕄 :=
  gPts c (hop (dstTag i) c) (row0 i) (nrows i) fullShare (gath m)

/-- The five transfers over link `l`. -/
def over (l : Fin 3) : Fin 5 → Fin 18 := match l with
  | 0 => ![0, 1, 6, 7, 12] | 1 => ![2, 3, 8, 9, 14] | 2 => ![4, 5, 10, 11, 16]

/-- What the neighbour over link `l` hands `c` with its signal: the places where `c`'s transfers
    over that link are to land. -/
def barPay (c : Dev nD) (l : Fin 3) : sProp 𝕄 :=
  iprop(landing c (over l 0) ∗ landing c (over l 1) ∗ landing c (over l 2) ∗ landing c (over l 3)
    ∗ landing c (over l 4))

/-- The schedule: each device's barrier is raised once over each link, each used transfer raises
    its two semaphores once. -/
def sched : Rounds.Schedule (GSem nD τ sig) (Fin 3) 𝕄 where
  duties g r := if r = 0 ∧ g.1.2 = .tc then
      match role g.2 with
      | .bar => Finset.univ
      | .snd i => if used i then {0} else ∅
      | .rcv i => if used i then {0} else ∅
      | .other => ∅
    else ∅
  unitless _ := False
  amount g _ _ := match role g.2 with
    | .bar => 1
    | .snd i => amt i
    | .rcv i => amt i
    | .other => 1
  payload g _ d := match role g.2 with
    | .bar => barPay g.1.1 d
    | .snd i => sendPay m g.1.1 i
    | .rcv i => recvPay m g.1.1 i
    | .other => iprop(emp)
  amount_pos g _ _ _ := by
    show 0 < (match role g.2 with | .bar => 1 | .snd i => amt i | .rcv i => amt i | .other => 1)
    split
    · exact Nat.one_pos
    · exact amt_pos _
    · exact amt_pos _
    · exact Nat.one_pos

/-- So can everything that the schedule hands over. -/
instance sched_payload_storable (g : GSem nD τ sig) (r : ℕ) (d : Fin 3) :
    BI.Storable (upEmb : UEmb _ 𝕄) ((sched (F := F) m).payload g r d) := by
  show BI.Storable upEmb (match role g.2 with
    | .bar => barPay g.1.1 d
    | .snd i => sendPay m g.1.1 i
    | .rcv i => recvPay m g.1.1 i
    | .other => iprop(emp))
  unfold barPay landing sendPay recvPay
  split <;> infer_instance

section Tables
variable (c : Dev nD) (i : Fin 18)

/-- The barrier is raised three times. -/
theorem duties_bar : (sched (F := F) m).duties (barCell c) 0 = Finset.univ := by
  dsimp only [sched]; rw [if_pos ⟨rfl, rfl⟩, role_bar]
/-- The send cell of a used transfer is raised once. -/
theorem duties_send (h : used i = true) : (sched (F := F) m).duties (sendCell c i) 0 = {0} := by
  dsimp only [sched]; rw [if_pos ⟨rfl, rfl⟩, role_send]; exact if_pos h
/-- So is its receive cell. -/
theorem duties_recv (h : used i = true) : (sched (F := F) m).duties (recvCell c i) 0 = {0} := by
  dsimp only [sched]; rw [if_pos ⟨rfl, rfl⟩, role_recv]; exact if_pos h
/-- Nothing is raised in a later round. -/
theorem duties_later (g : GSem nD τ sig) : ∀ r, 1 ≤ r → (sched (F := F) m).duties g r = ∅ :=
  fun r hr => by dsimp only [sched]; rw [if_neg fun h => by omega]
/-- The send cell of an unused transfer is never raised. -/
theorem duties_send_unused (h : used i = false) : ∀ r, 0 ≤ r → (sched (F := F) m).duties (sendCell c i) r = ∅ := by
  intro r _
  dsimp only [sched]; rw [role_send]; split
  · dsimp only; rw [h]; rfl
  · rfl
/-- Nor is its receive cell. -/
theorem duties_recv_unused (h : used i = false) : ∀ r, 0 ≤ r → (sched (F := F) m).duties (recvCell c i) r = ∅ := by
  intro r _
  dsimp only [sched]; rw [role_recv]; split
  · dsimp only; rw [h]; rfl
  · rfl

/-- Each signal raises the barrier by one. -/
theorem amount_bar (d : Fin 3) : (sched (F := F) m).amount (barCell c) 0 d = 1 := by
  dsimp only [sched]; rw [role_bar]
/-- A transfer raises its send cell by its credit. -/
theorem amount_send (d : Fin 3) : (sched (F := F) m).amount (sendCell c i) 0 d = amt i := by
  dsimp only [sched]; rw [role_send]
/-- And its receive cell by the same. -/
theorem amount_recv (d : Fin 3) : (sched (F := F) m).amount (recvCell c i) 0 d = amt i := by
  dsimp only [sched]; rw [role_recv]

/-- The barrier's wait expects three. -/
theorem expect_bar : (sched (F := F) m).expect (barCell c) 0 = 3 := by
  unfold Schedule.expect Schedule.amountOf
  rw [duties_bar, Finset.sum_congr rfl fun d _ => amount_bar m c d, Finset.sum_const, Finset.card_univ, Fintype.card_fin, smul_eq_mul]
/-- A send cell's wait expects the transfer's credit. -/
theorem expect_send (h : used i = true) : (sched (F := F) m).expect (sendCell c i) 0 = amt i := by
  unfold Schedule.expect Schedule.amountOf; rw [duties_send m c i h, Finset.sum_singleton, amount_send]
/-- So does a receive cell's. -/
theorem expect_recv (h : used i = true) : (sched (F := F) m).expect (recvCell c i) 0 = amt i := by
  unfold Schedule.expect Schedule.amountOf; rw [duties_recv m c i h, Finset.sum_singleton, amount_recv]

/-- What a signal hands over. -/
theorem payload_bar (d : Fin 3) : (sched (F := F) m).payload (barCell c) 0 d = barPay c d := by
  dsimp only [sched]; rw [role_bar]
/-- What a send cell hands over. -/
theorem payload_send (d : Fin 3) : (sched (F := F) m).payload (sendCell c i) 0 d = sendPay m c i := by
  dsimp only [sched]; rw [role_send]
/-- What a receive cell hands over. -/
theorem payload_recv (d : Fin 3) : (sched (F := F) m).payload (recvCell c i) 0 d = recvPay m c i := by
  dsimp only [sched]; rw [role_recv]

/-- All that the barrier's wait gives. -/
theorem rest_bar : bigSep ((sched (F := F) m).duties (barCell c) 0 \ ∅) (fun d => (sched (F := F) m).payload (barCell c) 0 d)
    = iprop(barPay c 0 ∗ barPay c 1 ∗ barPay c 2) := by
  rw [Finset.sdiff_empty, duties_bar, bigSep_univ_eq_bigSepL [0, 1, 2] (by decide) (by decide), bigSepL_cons_cons, bigSepL_cons_cons,
    bigSepL_singleton, payload_bar, payload_bar, payload_bar]
  rfl
/-- All that a send cell's wait gives. -/
theorem rest_send (h : used i = true) :
    bigSep ((sched (F := F) m).duties (sendCell c i) 0 \ ∅) (fun d => (sched (F := F) m).payload (sendCell c i) 0 d) = sendPay m c i := by
  rw [Finset.sdiff_empty, duties_send m c i h, bigSep_singleton, payload_send]
/-- All that a receive cell's wait gives. -/
theorem rest_recv (h : used i = true) :
    bigSep ((sched (F := F) m).duties (recvCell c i) 0 \ ∅) (fun d => (sched (F := F) m).payload (recvCell c i) 0 d) = recvPay m c i := by
  rw [Finset.sdiff_empty, duties_recv m c i h, bigSep_singleton, payload_recv]

end Tables

/-! ## What each device owes, and the levels -/

/-- What `c` owes for a signal over link `l`, for a transfer `i`. -/
def oweBar (c : Dev nD) (l : Fin 3) : CellTallies nD τ sig Unit := tallyAt (barCell (hop (tag l) c)) () 1
/-- What `c` owes the receive cell of transfer `i`. -/
def oweRecv (c : Dev nD) (i : Fin 18) : CellTallies nD τ sig Unit := tallyAt (recvCell (peer i c) i) () (amt i)

/-- What `c` owes while the signals over the links `bs` and the transfers `is` are to come. -/
def debt (c : Dev nD) (bs : List (Fin 3)) (is : List (Fin 18)) : CellTallies nD τ sig Unit :=
  (bs.map (oweBar c)).sum + (is.map (oweRecv c)).sum

/-- The debt with one more signal. -/
theorem debt_bar (c l bs is) : debt c (l :: bs) is = debt c bs is + tallyAt (barCell (hop (tag l) c)) () 1 := by
  show oweBar c l + (bs.map (oweBar c)).sum + (is.map (oweRecv c)).sum = (bs.map (oweBar c)).sum + (is.map (oweRecv c)).sum + oweBar c l
  rw [add_assoc, add_comm (oweBar c l)]
/-- The debt with one more transfer. -/
theorem debt_recv (c bs i is) : debt c bs (i :: is) = debt c bs is + tallyAt (recvCell (peer i c) i) () (amt i) := by
  show (bs.map (oweBar c)).sum + (oweRecv c i + (is.map (oweRecv c)).sum) = (bs.map (oweBar c)).sum + (is.map (oweRecv c)).sum + oweRecv c i
  rw [add_comm (oweRecv c i), add_assoc]
/-- With nothing left to do nothing is owed. -/
theorem debt_nil (c) : debt c [] [] = 0 := by simp [debt]

/-- All that `c` owes at launch. -/
def O₀ (c : Dev nD) : CellTallies nD τ sig Unit := debt c [0, 1, 2] sends

/-- A debt is owed to a barrier or to a receive cell that is still to be raised. -/
theorem debt_pos {c : Dev nD} {bs : List (Fin 3)} {is : List (Fin 18)} {g : GSem nD τ sig} {u : Unit}
    (h : 0 < debt c bs is g u) :
    (∃ l ∈ bs, g = barCell (hop (tag l) c)) ∨ ∃ i ∈ is, g = recvCell (peer i c) i := by
  induction bs with
  | cons l bs ih =>
    rw [debt_bar, Pi.add_apply, Finsupp.add_apply, tallyAt_apply] at h
    by_cases hg : g = barCell (hop (tag l) c) ∧ u = ()
    · exact .inl ⟨l, List.mem_cons_self, hg.1⟩
    · rw [if_neg hg, Nat.add_zero] at h
      rcases ih h with ⟨l', hl', e⟩ | h'
      · exact .inl ⟨l', List.mem_cons_of_mem _ hl', e⟩
      · exact .inr h'
  | nil =>
    induction is with
    | cons i is ih =>
      rw [debt_recv, Pi.add_apply, Finsupp.add_apply, tallyAt_apply] at h
      by_cases hg : g = recvCell (peer i c) i ∧ u = ()
      · exact .inr ⟨i, List.mem_cons_self, hg.1⟩
      · rw [if_neg hg, Nat.add_zero] at h
        rcases ih h with ⟨l', hl', e⟩ | ⟨i', hi', e⟩
        · exact .inl ⟨l', hl', e⟩
        · exact .inr ⟨i', List.mem_cons_of_mem _ hi', e⟩
    | nil => rw [debt_nil] at h; exact absurd h (Nat.lt_irrefl 0)

/-- Debts are owed to cells of the devices' main cores. -/
def L (g : GSem nD τ sig) : Finset Unit := if g.1.2 = .tc then {()} else ∅
/-- The level of a semaphore: the barrier's 1, a receive's 2 plus its phase, else 0. -/
def lvl : SemLoc sig → ℕ := fun sm => match role sm with
  | .bar => 1
  | .rcv i => 2 + ph i
  | _ => 0
/-- The level of a cell. -/
def lv (g : GSem nD τ sig) (_ : Unit) : ℕ := lvl g.2

/-- Elsewhere nothing is owed. -/
theorem L_of_ne (g : GSem nD τ sig) (h : g.1.2 ≠ .tc) : L g = ∅ := if_neg h
/-- On a main core every cell may be owed to. -/
theorem L_tc (c : Dev nD) (sm : SemLoc sig) : L ((c : Thread nD τ), sm) = {()} := if_pos rfl
/-- The barrier's level. -/
theorem lvl_bar : lvl (.reg barS) = 1 := by unfold lvl; rw [role_bar]
/-- A receive semaphore's level grows with the phase. -/
theorem lvl_recv (i) : lvl (.dma (recvS i)) = 2 + ph i := by unfold lvl; rw [role_recv]

/-- A device may wait on a semaphore below everything that it still owes. -/
theorem mayWait (c : Dev nD) (sm : SemLoc sig) (bs : List (Fin 3)) (is : List (Fin 18))
    (hb : ∀ l ∈ bs, lvl sm < 1) (hi : ∀ i ∈ is, lvl sm < 2 + ph i) :
    (levAts L lv : sProp 𝕄) ⊢ MayWait (c : Thread nD τ) sm () (debt c bs is) :=
  MayOwe.of_cut (L := L) (lev := lv) (lvl sm)
    (fun p hp => by rw [Finset.mem_singleton.mp hp, L_tc]; exact Finset.mem_singleton_self _)
    (fun g u hg => by rcases debt_pos hg with ⟨l, _, rfl⟩ | ⟨i, _, rfl⟩ <;> exact Finset.mem_singleton_self _)
    (fun p hp => by rw [Finset.mem_singleton.mp hp]; exact le_rfl)
    (fun g u hg => by
      rcases debt_pos hg with ⟨l, hl, rfl⟩ | ⟨i, h, rfl⟩
      · show lvl sm < lvl (.reg barS); rw [lvl_bar]; exact hb l hl
      · show lvl sm < lvl (.dma (recvS i)); rw [lvl_recv]; exact hi i h)

end Cert.Gather

end
-- ==== Proof.Steps.lean ====
/-
What each operation of the body does to the protocol's state.
-/
module

public import proofs.«01_k».proof.Proof.Schedule

@[expose] public section

noncomputable section

namespace Cert.Gather

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-- No loop is counted. -/
abbrev 𝒱₀ : Variants := Variants.none

/-! ## The state -/

/-- The cells with a schedule: sends, receives, the barrier. -/
def csem (k : Fin 37) : SemLoc sig :=
  if h : k.val < 18 then .dma (sendS ⟨k.val, h⟩)
  else if h : k.val < 36 then .dma (recvS ⟨k.val - 18, by omega⟩)
  else .reg barS
/-- The number of a send cell among a device's cells. -/
def ksend (i : Fin 18) : Fin 37 := ⟨i.val, by omega⟩
/-- The number of a receive cell. -/
def krecv (i : Fin 18) : Fin 37 := ⟨18 + i.val, by omega⟩
/-- The number of the barrier's cell. -/
def kbar : Fin 37 := 36
/-- The semaphore of a send cell. -/
theorem csem_send : ∀ i, csem (ksend i) = .dma (sendS i) := by decide
/-- The semaphore of a receive cell. -/
theorem csem_recv : ∀ i, csem (krecv i) = .dma (recvS i) := by decide
/-- The semaphore of the barrier's cell. -/
theorem csem_bar : csem kbar = .reg barS := rfl
/-- The cell with a given number on a given device. -/
abbrev kcell (ck : Dev nD × Fin 37) : GSem nD τ sig := ((ck.1 : Thread nD τ), csem ck.2)

section
variable (K : Dev nD × Fin 37 → ℕ)

/-- What every device knows throughout: each cell's invariant, that its round 0 is reached, and the
    levels. -/
def recs : sProp 𝕄 :=
  iprop(bigSep Finset.univ (fun ck : Dev nD × Fin 37 => iprop(cellInv ER (sched m) (K ck) (kcell ck) ∗ reached ER (kcell ck) 0)) ∗ levAts L lv)

/-- The records can be used many times. -/
instance recs_persistent : BI.Persistent (recs (F := F) m K) := by unfold recs; infer_instance

/-- The record of one cell. -/
theorem recs_cell (ck : Dev nD × Fin 37) :
    recs m K ⊢ iprop(cellInv ER (sched m) (K ck) (kcell ck) ∗ reached ER (kcell ck) 0) := by
  unfold recs
  iintro ⟨H, -⟩
  iapply (show bigSep Finset.univ (fun ck : Dev nD × Fin 37 => iprop(cellInv ER (sched m) (K ck) (kcell ck) ∗ reached ER (kcell ck) 0))
    ⊢ iprop(cellInv ER (sched m) (K ck) (kcell ck) ∗ reached ER (kcell ck) 0) from BI.bigSep_elim (Finset.mem_univ ck))
  iexact H
/-- The record of a send cell. -/
theorem recs_send (c : Dev nD) (i : Fin 18) :
    recs m K ⊢ iprop(cellInv ER (sched m) (K (c, ksend i)) (sendCell c i) ∗ reached ER (sendCell c i) 0) := by
  have h := recs_cell m K (c, ksend i)
  rwa [show kcell (c, ksend i) = sendCell c i by unfold kcell; rw [csem_send]] at h
/-- The record of a receive cell. -/
theorem recs_recv (c : Dev nD) (i : Fin 18) :
    recs m K ⊢ iprop(cellInv ER (sched m) (K (c, krecv i)) (recvCell c i) ∗ reached ER (recvCell c i) 0) := by
  have h := recs_cell m K (c, krecv i)
  rwa [show kcell (c, krecv i) = recvCell c i by unfold kcell; rw [csem_recv]] at h
/-- The record of the barrier's cell. -/
theorem recs_bar (c : Dev nD) :
    recs m K ⊢ iprop(cellInv ER (sched m) (K (c, kbar)) (barCell c) ∗ reached ER (barCell c) 0) := by
  have h := recs_cell m K (c, kbar)
  rwa [show kcell (c, kbar) = barCell c from rfl] at h
/-- The records tell the levels. -/
theorem recs_lev : recs m K ⊢ levAts L lv := by
  unfold recs
  iintro ⟨-, H⟩
  iexact H

/-- What `c` still owes, at some record of its waits. -/
def ow (c : Dev nD) (bs : List (Fin 3)) (is : List (Fin 18)) : sProp 𝕄 :=
  iprop(∃ W, owes (c : Thread nD τ) (debt c bs is) W)

/-- What `c` starts transfer `i` with. -/
def sendKit (c : Dev nD) (i : Fin 18) : sProp 𝕄 :=
  iprop(dutyTok ER (sendCell c i) 0 0 ∗ dutyTok ER (recvCell (peer i c) i) 0 0 ∗ atPos ER (sendCell c i) 0 ∅ 0)
/-- What `c` waits with for its transfer `i` to have left. -/
def sentKit (c : Dev nD) (i : Fin 18) : sProp 𝕄 :=
  iprop(cred (tallyAt (sendCell c i) () (amt i)) ∗ atPos ER (sendCell c i) 0 ∅ 0)
/-- What `c` waits with for transfer `i` to arrive. -/
def recvKit (c : Dev nD) (i : Fin 18) : sProp 𝕄 :=
  iprop(cred (tallyAt (recvCell c i) () (amt i)) ∗ atPos ER (recvCell c i) 0 ∅ 0)

/-- Slot `s` of `c`'s staging buffer. -/
def sPts (c : Dev nD) (s : Fin 4) (f : (cc0_scratch1 : Ref sig .tc).ty.Contents (Elt F)) : sProp 𝕄 :=
  ((c : Thread nD τ).loc cc0_scratch1) ↦[slot s]{fullShare} f
/-- Rows of `c`'s result. -/
def oPts (c : Dev nD) (lo : ℕ) (f : (main_v1 : Ref sig .tc).ty.Contents (Elt F)) : sProp 𝕄 :=
  ((c : Thread nD τ).loc main_v1) ↦[band lo]{fullShare} f
/-- `c`'s staged right operand. -/
def bPts (c : Dev nD) : sProp 𝕄 := ((c : Thread nD τ).loc cc0_stg1_0) ↦{fullShare} (bAt m c)
/-- `c`'s staged left operand. -/
def aPts (c : Dev nD) : sProp 𝕄 := ((c : Thread nD τ).loc cc0_stg0_0) ↦{fullShare} (aAt m c)
/-- A slot with no copy out of it in flight. -/
def free (c : Dev nD) (s : Fin 4) : sProp 𝕄 :=
  iprop((∃ f, sPts (F := F) c s f) ∗ semVal (copyCell c s) 0)
/-- What a copy to the result credits. -/
def amtOut : ℕ := (main_v1 : Ref sig .tc).dmaCredit S768x1536 .bf16
/-- A half product is not empty. -/
theorem numel_out : 0 < S768x1536.numel := by decide
/-- Every view of a half of the result credits the same. -/
theorem amtOut_eq {sp} (v : View sig .tc sp S768x1536 .bf16) (h : v.ref = main_v1) : v.dmaCredit = amtOut :=
  v.dmaCredit_ref.symm.trans (congrArg (fun b : Ref sig .tc => b.dmaCredit S768x1536 .bf16) h)
/-- So does a slice of it. -/
theorem amtOut_slice {off : Fin 2 → ℕ} {inbo : ∀ a, off a + S768x1536.size a ≤ S12288x1536.size a} {hso} :
    (oM.slice (Rect.unit (s := S12288x1536) off S768x1536.size inbo) hso).view.dmaCredit = amtOut := amtOut_eq _ rfl
/-- This credit is positive. -/
theorem amtOut_pos : 0 < amtOut :=
  lt_of_lt_of_eq (View.dmaCredit_pos (oM.slice (Rect.unit (s := S12288x1536) ![0, 0] S768x1536.size (by decide)) (fun _ => rfl)).view numel_out) amtOut_slice
/-- The credit of a piece of the gathered array depends on its shape only. -/
theorem amt_eq {sp} {S : Shape} (v : View sig .tc sp S .bf16) (h : v.ref = cc0_scratch0) {n : ℕ}
    (hn : (cc0_scratch0 : Ref sig .tc).dmaCredit S .bf16 = n) : v.dmaCredit = n :=
  v.dmaCredit_ref.symm.trans ((congrArg (fun b : Ref sig .tc => b.dmaCredit S .bf16) h).trans hn)
/-- The credit of a half chunk. -/
theorem amt_half (i : Fin 18) (h : i.val < 12) : (cc0_scratch0 : Ref sig .tc).dmaCredit S768x768 .bf16 = amt i := (if_pos h).symm
/-- The credit of a third of a chunk. -/
theorem amt_third (i : Fin 18) (h : ¬ i.val < 12) : (cc0_scratch0 : Ref sig .tc).dmaCredit S512x768 .bf16 = amt i := (if_neg h).symm
/-- The copy of a product from slot `s` to its rows of the result, in flight. -/
def busy (c : Dev nD) (s : Fin 4) (lo : ℕ) : sProp 𝕄 :=
  Transfers.Flight EC (c : Thread nD τ) (.dma (copyS s)) () amtOut iprop(oPts c lo (prod m c) ∗ ∃ f, sPts (F := F) c s f)

/-! ## Signals and the barrier wait -/

variable {α : Type} {Q : α → sProp (MT nD τ sig Unit (Elt F) ℕ UU ℕ)} {k : PUnit.{1} → Prog (TpuEff nD τ sig (Elt F) Λ₀ .tc) α}

/-- The signal over link `l` hands over the five places where transfers over it land. -/
theorem step_signal (c n : Dev nD) (l : Fin 3) (hn : n = hop (tag l) c) (bs is) {N : ℤ} (hN : N = ((1 : ℕ) : ℤ)) :
    recs m K ⊢ iprop(ow c (l :: bs) is -∗ dutyTok ER (barCell (hop (tag l) c)) 0 l -∗ barPay (hop (tag l) c) l
      -∗ (ow c bs is -∗ wp frame (wpE (defs₀ (F := F)) 𝒱₀ c none) Set.univ (k ⟨⟩) Q)
      -∗ wp frame (wpE (defs₀ (F := F)) 𝒱₀ c none) Set.univ (.op (.semSignal (n : Thread nD τ) barS N) k) Q) := by
  subst hn hN
  unfold ow
  iintro #HR ⟨%W, HO⟩ Ht Hp Hk
  ihave #HI := (recs_bar m K (hop (tag l) c)) $$ HR
  icases HI with ⟨#HI, #Hr⟩
  iapply (Rounds.wp_signal 𝒱₀ ER (sched m) (c : Thread nD τ) none (dst := (hop (tag l) c : Thread nD τ)) (κ := K (hop (tag l) c, kbar))
      (d := l) (by rw [duties_bar]; exact Finset.mem_univ _) (amount_bar m (hop (tag l) c) l) () (debt c bs is) (debt_bar c l bs is))
    $$ [HO Ht Hp]
  · isplitr; · iexact HI
    isplitl [HO]; · iexact HO
    isplitl [Ht]; · iexact Ht
    isplitl [Hp]; · rw [payload_bar]; iexact Hp
    iexact Hr
  iintro HO
  iapply Hk
  iexists W
  iexact HO

/-- The wait on the barrier brings the places where this device's transfers are to land. -/
theorem step_barrier (c : Dev nD) (is) {N : ℕ} (hN : N = 3) :
    recs m K ⊢ iprop(cred (tallyAt (barCell c) () 3) -∗ atPos ER (barCell c) 0 ∅ 0 -∗ ow c [] is
      -∗ (ow c [] is -∗ semVal (barCell c) 0 -∗ barPay c 0 -∗ barPay c 1 -∗ barPay c 2
            -∗ wp frame (wpE (defs₀ (F := F)) 𝒱₀ c none) Set.univ (k ⟨⟩) Q)
      -∗ wp frame (wpE (defs₀ (F := F)) 𝒱₀ c none) Set.univ (.op (.semWait barS N) k) Q) := by
  subst hN
  unfold ow
  iintro #HR Hc Ha ⟨%W, HO⟩ Hk
  ihave #HI := (recs_bar m K c) $$ HR
  icases HI with ⟨#HI, -⟩
  iapply (Rounds.wp_wait_rest_token 𝒱₀ ER (sched m) (c : Thread nD τ) none (κ := K (c, kbar))
      (wpE_semWait_eq 𝒱₀ (c : Thread nD τ) none Set.univ) (Set.mem_univ _) () (O := debt c [] is) (W := W) (R := 0) (m := 0) (T := ∅)
      (by rw [expect_bar])) $$ [Hc HO Ha]
  · isplitr; · iexact HI
    isplitl [Hc]; · iexact Hc
    isplitl [HO]; · iexact HO
    isplitr
    · iapply (mayWait c (.reg barS) [] is (fun _ h => nomatch h) (fun i _ => by rw [lvl_bar]; omega))
      iapply (recs_lev m K); iexact HR
    iexact Ha
  iintro ⟨HO, Ha, -, Hp⟩
  ihave Hp := (Entails.of_eq (rest_bar m c)) $$ Hp
  icases Hp with ⟨H0, H1, H2⟩
  imod (Rounds.cell_close ER (sched m) (Set.mem_univ (K (c, kbar))) (fun h => h) (R := 0 + 1) (duties_later m (barCell c))) $$ [Ha] with Hz
  · isplitr; · iexact HI
    iexact Ha
  iapply Hk $$ [HO] Hz H0 H1 H2
  iexists _
  iexact HO

/-! ## Transfers -/

/-- The start of transfer `i`: it borrows its share of the source and lands at the peer. -/
theorem step_send (c n : Dev nD) (i : Fin 18) (hu : used i = true) (hn : n = peer i c) (is) (N : ℕ) (hN : N = nrows i)
    {off : Fin 3 → ℕ} (hoff : off = ![(hop (srcTag i) c).val, row0 i, 0])
    {inb : ∀ a, off a + (⟨3, ![1, N, 768]⟩ : Shape).size a ≤ S8x1536x768.size a}
    {inb' : ∀ a, off a + (⟨3, ![1, N, 768]⟩ : Shape).size a ≤ S8x1536x768.size a}
    {hst : ∀ a, (Rect.unit (s := S8x1536x768) off (⟨3, ![1, N, 768]⟩ : Shape).size inb).stride a = 1}
    {hst' : ∀ a, (Rect.unit (s := S8x1536x768) off (⟨3, ![1, N, 768]⟩ : Shape).size inb').stride a = 1}
    {hq : (⟨3, ![1, N, 768]⟩ : Shape).Squeezes (⟨2, ![N, 768]⟩ : Shape)}
    {hq' : (⟨3, ![1, N, 768]⟩ : Shape).Squeezes (⟨2, ![N, 768]⟩ : Shape)}
    {sS sR : DmaSem sig} (hS : sS = sendS i) (hR : sR = recvS i)
    (hA : (cc0_scratch0 : Ref sig .tc).dmaCredit (⟨2, ![N, 768]⟩ : Shape) .bf16 = amt i)
    {hsc} {hsrc} {hdst} {hsem} :
    recs m K ⊢ iprop(sendPay m c i -∗ landing c i
      -∗ ow c [] (i :: is) -∗ sendKit c i
      -∗ (ow c [] is -∗ sentKit c i -∗ wp frame (wpE (defs₀ (F := F)) 𝒱₀ c none) Set.univ (k ⟨⟩) Q)
      -∗ wp frame (wpE (defs₀ (F := F)) 𝒱₀ c none) Set.univ
          (.op (.enqueueDma ((gM.slice (Rect.unit (s := S8x1536x768) off (⟨3, ![1, N, 768]⟩ : Shape).size inb) hst).squeeze (⟨2, ![N, 768]⟩ : Shape) hq)
            (.remote (Dev.tc n : Thread nD τ)
              ((gM.slice (Rect.unit (s := S8x1536x768) off (⟨3, ![1, N, 768]⟩ : Shape).size inb') hst').squeeze (⟨2, ![N, 768]⟩ : Shape) hq') (.dma sS) hsc)
            (.dma sR) hsrc hdst hsem) k) Q) := by
  subst hn hoff hS hR hN
  have hset : ∀ (inb : ∀ a, (![(hop (srcTag i) c).val, row0 i, 0] : Fin 3 → ℕ) a + (⟨3, ![1, nrows i, 768]⟩ : Shape).size a ≤ S8x1536x768.size a) (hst)
      (hq : (⟨3, ![1, nrows i, 768]⟩ : Shape).Squeezes (⟨2, ![nrows i, 768]⟩ : Shape)),
      ((gM.slice (Rect.unit (s := S8x1536x768) ![(hop (srcTag i) c).val, row0 i, 0] (⟨3, ![1, nrows i, 768]⟩ : Shape).size inb) hst).squeeze (⟨2, ![nrows i, 768]⟩ : Shape) hq).view.set
        = rows (hop (srcTag i) c) (row0 i) (nrows i) := fun inb hst hq => by
    exact (View.set_reshape _ _).trans ((View.set_slice_whole _ _).trans (rect_rows inb))
  unfold ow sendKit sentKit landing sendPay
  iintro #HR Hs ⟨%fd, Hd⟩ ⟨%W, HO⟩ ⟨HtS, HtR, Ha⟩ Hk
  ihave #HI := (recs_send m K c i) $$ HR
  icases HI with ⟨#HIs, #Hrs⟩
  ihave #HI := (recs_recv m K (peer i c) i) $$ HR
  icases HI with ⟨#HIr, #Hrr⟩
  unfold gPts
  iapply (Rounds.wp_send_pointsTo 𝒱₀ ER (sched m) (c : Thread nD τ) none (κ₁ := K (c, ksend i)) (κ₂ := K (peer i c, krecv i))
      (r₁ := 0) (r₂ := 0) (d₁ := 0) (d₂ := 0) (q := lent i) (fs := gath m) (fd := fd)
      (by rw [duties_send m c i hu]; exact Finset.mem_singleton_self _) (by rw [duties_recv m _ i hu]; exact Finset.mem_singleton_self _)
      () () (amt i) (by exact hA) (amount_send m c i 0) (amount_recv m (peer i c) i 0) (debt c [] is) (debt_recv c [] i is) (W := W)
      (by rw [hset, payload_send]; unfold sendPay gPts; exact BI.Entails.refl _)
      (by
        rw [hset, payload_recv]; unfold recvPay gPts; rw [dst_peer]
        refine Entails.of_eq (pointsTo_congr fun x hx => ?_)
        refine write_landed _ fd (gath m) x ?_
        rw [hset]; exact hx)) $$ [Hs Hd HO HtS HtR]
  · isplitr; · iexact HIs
    isplitr; · iexact HIr
    isplitl [Hs]; · rw [hset]; iexact Hs
    isplitl [Hd]; · rw [hset]; iexact Hd
    isplitl [HO]; · iexact HO
    isplitl [HtS]; · iexact HtS
    isplitr; · iexact Hrs
    isplitl [HtR]; · iexact HtR
    iexact Hrr
  iintro ⟨Hc, HO⟩
  iapply Hk $$ [HO] [Hc Ha]
  · iexists _; iexact HO
  · isplitl [Hc] <;> iassumption

/-- The wait for transfer `i` to arrive brings the piece it carried. -/
theorem step_recv (c : Dev nD) (i : Fin 18) (hu : used i = true) (is) (hi : ∀ x ∈ is, ph i < ph x)
    {sR : DmaSem sig} (hR : sR = recvS i) {S : Shape} {sp sp'} {S' : Shape} {e'} {src : Memref sig .tc sp' S' e'} {dst : Memref sig .tc sp S .bf16}
    (hd : dst.view.ref = cc0_scratch0) (hA : (cc0_scratch0 : Ref sig .tc).dmaCredit S .bf16 = amt i) {hsrc} {hdst} :
    recs m K ⊢ iprop(recvKit c i -∗ ow c [] is
      -∗ (ow c [] is -∗ semVal (recvCell c i) 0 -∗ recvPay m c i
            -∗ wp frame (wpE (defs₀ (F := F)) 𝒱₀ c none) Set.univ (k ⟨⟩) Q)
      -∗ wp frame (wpE (defs₀ (F := F)) 𝒱₀ c none) Set.univ (.op (.waitDma2 sR src dst hsrc hdst) k) Q) := by
  subst hR
  unfold ow recvKit
  iintro #HR ⟨Hc, Ha⟩ ⟨%W, HO⟩ Hk
  ihave #HI := (recs_recv m K c i) $$ HR
  icases HI with ⟨#HI, -⟩
  iapply (Rounds.wp_wait_rest_token 𝒱₀ ER (sched m) (c : Thread nD τ) none (κ := K (c, krecv i)) (sm := .dma (recvS i)) (k' := amt i)
      (by rw [← amt_eq dst.view hd hA]; exact wpE_waitDma2_eq 𝒱₀ (c : Thread nD τ) none Set.univ) (Set.mem_univ _) () (O := debt c [] is) (W := W) (R := 0) (m := 0) (T := ∅)
      (by rw [Nat.zero_add, expect_recv m c i hu])) $$ [Hc HO Ha]
  · isplitr; · iexact HI
    isplitl [Hc]; · iexact Hc
    isplitl [HO]; · iexact HO
    isplitr
    · iapply (mayWait c (.dma (recvS i)) [] is (fun _ h => nomatch h) (fun x hx => by rw [lvl_recv]; have := hi x hx; omega))
      iapply (recs_lev m K); iexact HR
    iexact Ha
  iintro ⟨HO, Ha, -, Hp⟩
  ihave Hp := (Entails.of_eq (rest_recv m c i hu)) $$ Hp
  imod (Rounds.cell_close ER (sched m) (Set.mem_univ (K (c, krecv i))) (fun h => h) (R := 0 + 1) (duties_later m (recvCell c i))) $$ [Ha] with Hz
  · isplitr; · iexact HI
    iexact Ha
  iapply Hk $$ [HO] Hz Hp
  iexists _
  iexact HO

/-- The wait for transfer `i` to have left brings back the share it borrowed. -/
theorem step_sent (c : Dev nD) (i : Fin 18) (hu : used i = true)
    {sS : DmaSem sig} (hS : sS = sendS i) {S : Shape} {sp sp'} {S' : Shape} {e'} {src : Memref sig .tc sp' S' e'} {dst : Memref sig .tc sp S .bf16}
    (hd : dst.view.ref = cc0_scratch0) (hA : (cc0_scratch0 : Ref sig .tc).dmaCredit S .bf16 = amt i) {hsrc} {hdst} :
    recs m K ⊢ iprop(sentKit c i -∗ ow c [] []
      -∗ (ow c [] [] -∗ semVal (sendCell c i) 0 -∗ sendPay m c i
            -∗ wp frame (wpE (defs₀ (F := F)) 𝒱₀ c none) Set.univ (k ⟨⟩) Q)
      -∗ wp frame (wpE (defs₀ (F := F)) 𝒱₀ c none) Set.univ (.op (.waitDma2 sS src dst hsrc hdst) k) Q) := by
  subst hS
  unfold ow sentKit
  iintro #HR ⟨Hc, Ha⟩ ⟨%W, HO⟩ Hk
  ihave #HI := (recs_send m K c i) $$ HR
  icases HI with ⟨#HI, -⟩
  iapply (Rounds.wp_wait_rest_token 𝒱₀ ER (sched m) (c : Thread nD τ) none (κ := K (c, ksend i)) (sm := .dma (sendS i)) (k' := amt i)
      (by rw [← amt_eq dst.view hd hA]; exact wpE_waitDma2_eq 𝒱₀ (c : Thread nD τ) none Set.univ) (Set.mem_univ _) () (O := debt c [] []) (W := W) (R := 0) (m := 0) (T := ∅)
      (by rw [Nat.zero_add, expect_send m c i hu])) $$ [Hc HO Ha]
  · isplitr; · iexact HI
    isplitl [Hc]; · iexact Hc
    isplitl [HO]; · iexact HO
    isplitr; · rw [debt_nil, MayWait_zero]; iempintro
    iexact Ha
  iintro ⟨HO, Ha, -, Hp⟩
  ihave Hp := (Entails.of_eq (rest_send m c i hu)) $$ Hp
  imod (Rounds.cell_close ER (sched m) (Set.mem_univ (K (c, ksend i))) (fun h => h) (R := 0 + 1) (duties_later m (sendCell c i))) $$ [Ha] with Hz
  · isplitr; · iexact HI
    iexact Ha
  iapply Hk $$ [HO] Hz Hp
  iexists _
  iexact HO

end

end Cert.Gather

end
-- ==== Proof.Compute.lean ====
/-
The body's arithmetic steps: a device stores its own rows, multiplies a half chunk by the right
operand into a slot, copies the slot to the result, and waits for that copy.
-/
module

public import proofs.«01_k».proof.Proof.Steps

@[expose] public section

noncomputable section

namespace Cert.Gather

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Fin 37 → ℕ)
variable {α : Type} {Q : α → sProp (MT nD τ sig Unit (Elt F) ℕ UU ℕ)} {k : PUnit.{1} → Prog (TpuEff nD τ sig (Elt F) Λ₀ .tc) α}

/-- A device reads its rows of the left operand and stores them as its own chunk. -/
theorem step_own (c : Dev nD) {off : Fin 3 → ℕ} (hoff : off = ![(hop 0 c).val, 0, 0])
    {inba : ∀ a, (![0, 0] : Fin 2 → ℕ) a + S1536x768.size a ≤ S1536x768.size a}
    {inb : ∀ a, off a + S1x1536x768.size a ≤ S8x1536x768.size a}
    {inb' : ∀ a, off a + S1x1536x768.size a ≤ S8x1536x768.size a}
    (P : Vec F S1536x768 .bf16 → Vec F S1x1536x768 .bf16) (hP : ∀ v, P v = k0_pay1 v) {h1 h2 h3 h4} :
    aPts m c ⊢ iprop((∃ f, gPts c (hop 0 c) 0 1536 fullShare f)
      -∗ (aPts m c -∗ gPts c (hop 0 c) 0 1536 fullShare (gath m)
            -∗ wp frame (wpE (defs₀ (F := F)) 𝒱₀ c none) Set.univ (k ⟨⟩) Q)
      -∗ wp frame (wpE (defs₀ (F := F)) 𝒱₀ c none) Set.univ
          (.op (.load aM (Rect.unit (s := S1536x768) ![0, 0] S1536x768.size inba).toLoadRect h1) fun v =>
            .op (.load gM (Rect.unit (s := S8x1536x768) off S1x1536x768.size inb).toLoadRect h2) fun _ =>
            .op (.store gM (Rect.unit (s := S8x1536x768) off S1x1536x768.size inb') (P v) Finset.univ h3 h4) k) Q) := by
  subst hoff
  have hin : (gM.access (Rect.unit (s := S8x1536x768) ![(hop 0 c).val, 0, 0] S1x1536x768.size inb)).set ⊆ rows (hop 0 c) 0 1536 := by
    exact ((View.set_slice_whole _ _).trans (rect_rows inb)).subset
  have hin' : (gM.access (Rect.unit (s := S8x1536x768) ![(hop 0 c).val, 0, 0] S1x1536x768.size inb')).setOn Finset.univ ⊆ rows (hop 0 c) 0 1536 := hin
  have he : ∀ (f : (cc0_scratch0 : Ref sig .tc).ty.Contents (Elt F)) (x : S8x1536x768.Idx), x ∈ rows (hop 0 c) 0 1536 →
      (gM.access (Rect.unit (s := S8x1536x768) ![(hop 0 c).val, 0, 0] S1x1536x768.size inb')).write (Elt F) f (k0_pay1 (aAt m c)) Finset.univ x = gath m x :=
    fun f x hx => write_own' m c (hop 0 c) (hop_zero c) inb' f x hx
  unfold aPts gPts
  iintro Ha ⟨%f, Hg⟩ Hk
  iapply (wp_load 𝒱₀ (c : Thread nD τ) none Set.univ (m := aM) (Finset.subset_univ _)) $$ Ha; iintro Ha
  rw [read_a, hP]
  iapply (wp_load_rect 𝒱₀ (c : Thread nD τ) none Set.univ (m := gM) hin) $$ Hg; iintro Hg
  iapply (wp_store 𝒱₀ (c : Thread nD τ) none Set.univ (m := gM) (Mk := Finset.univ) hin') $$ Hg; iintro Hg
  iapply Hk $$ Ha
  ihave Hg := (Entails.of_eq (pointsTo_congr (q := fullShare) (he f))) $$ Hg
  iexact Hg

/-- A band of the result whose entries are the products is held with the products. -/
theorem oPts_of (c : Dev nD) (lo : ℕ) (f : (main_v1 : Ref sig .tc).ty.Contents (Elt F)) (h : ∀ y ∈ band lo, f y = prod m c y) :
    ((((c : Thread nD τ).loc main_v1) ↦[band lo]{fullShare} f) : sProp 𝕄) ⊢ (((c : Thread nD τ).loc main_v1) ↦[band lo]{fullShare} (prod m c)) :=
  Entails.of_eq (pointsTo_congr h)

/-- A device reads half a chunk and the right operand, stores their product in slot `s` and starts
    its copy to the result. -/
theorem step_half (c j : Dev nD) (h : Fin 2) (s : Fin 4) (lo n : ℕ) (q : PosShare TreeShare)
    (hlo : lo ≤ 768 * h.val) (hhi : 768 * h.val + 768 ≤ lo + n)
    {off : Fin 3 → ℕ} (hoff : off = ![j.val, 768 * h.val, 0]) {offo : Fin 2 → ℕ} (hoffo : offo = ![1536 * j.val + 768 * h.val, 0])
    {inb : ∀ a, off a + S1x768x768.size a ≤ S8x1536x768.size a}
    {inbb : ∀ a, (![0, 0] : Fin 2 → ℕ) a + S768x1536.size a ≤ S768x1536.size a}
    {inbs inbs' inbs'' : ∀ a, (![s.val, 0, 0] : Fin 3 → ℕ) a + S1x768x1536.size a ≤ S4x768x1536.size a}
    {inbo : ∀ a, offo a + S768x1536.size a ≤ S12288x1536.size a}
    {hst : ∀ a, (Rect.unit (s := S4x768x1536) ![s.val, 0, 0] S1x768x1536.size inbs'').stride a = 1}
    {hso : ∀ a, (Rect.unit (s := S12288x1536) offo S768x1536.size inbo).stride a = 1}
    {hsq : S1x768x1536.Squeezes S768x1536}
    {sm : DmaSem sig} (hsm : sm = copyS s)
    (P : Vec F S1x768x768 .bf16 → Vec F S768x1536 .bf16 → Vec F S1x768x1536 .bf16) (hP : ∀ v w, P v w = k0_pay2 v w)
    {h1 h2 h3 h4 h5 h6 h7 h8} :
    gPts c j lo n q (gath m) ⊢ iprop(bPts m c -∗ free c s -∗ (∃ f, oPts c (1536 * j.val + 768 * h.val) f)
      -∗ (gPts c j lo n q (gath m) -∗ bPts m c -∗ busy m c s (1536 * j.val + 768 * h.val)
            -∗ wp frame (wpE (defs₀ (F := F)) 𝒱₀ c none) Set.univ (k ⟨⟩) Q)
      -∗ wp frame (wpE (defs₀ (F := F)) 𝒱₀ c none) Set.univ
          (.op (.load gM (Rect.unit (s := S8x1536x768) off S1x768x768.size inb).toLoadRect h1) fun v =>
            .op (.load bM (Rect.unit (s := S768x1536) ![0, 0] S768x1536.size inbb).toLoadRect h2) fun w =>
            .op (.load sM (Rect.unit (s := S4x768x1536) ![s.val, 0, 0] S1x768x1536.size inbs).toLoadRect h3) fun _ =>
            .op (.store sM (Rect.unit (s := S4x768x1536) ![s.val, 0, 0] S1x768x1536.size inbs') (P v w) Finset.univ h4 h5) fun _ =>
            .op (.enqueueDma ((sM.slice (Rect.unit (s := S4x768x1536) ![s.val, 0, 0] S1x768x1536.size inbs'') hst).squeeze S768x1536 hsq)
              (.here (oM.slice (Rect.unit (s := S12288x1536) offo S768x1536.size inbo) hso)) (.dma sm) h6 h7 h8) k) Q) := by
  subst hoff hoffo hsm
  have hh : 768 * h.val + 768 ≤ 1536 := by have := h.isLt; omega
  have hin : (gM.access (Rect.unit (s := S8x1536x768) ![j.val, 768 * h.val, 0] S1x768x768.size inb)).set ⊆ rows j lo n := by
    refine ((View.set_slice_whole _ _).trans (rect_rows inb)).subset.trans fun x hx => ?_
    rw [mem_rows] at hx ⊢
    omega
  have hins : (sM.access (Rect.unit (s := S4x768x1536) ![s.val, 0, 0] S1x768x1536.size inbs)).set = slot s :=
    (View.set_slice_whole _ _).trans (rect_slot inbs)
  have hins' : (sM.access (Rect.unit (s := S4x768x1536) ![s.val, 0, 0] S1x768x1536.size inbs')).setOn Finset.univ ⊆ slot s :=
    hins.subset
  have hsrc : ((sM.slice (Rect.unit (s := S4x768x1536) ![s.val, 0, 0] S1x768x1536.size inbs'') hst).squeeze S768x1536 hsq).view.set = slot s :=
    (View.set_reshape _ _).trans ((View.set_slice_whole _ _).trans (rect_slot inbs''))
  have hdst : (oM.slice (Rect.unit (s := S12288x1536) ![1536 * j.val + 768 * h.val, 0] S768x1536.size inbo) hso).view.set
      = band (1536 * j.val + 768 * h.val) := (View.set_slice_whole _ _).trans (rect_band inbo)
  have hD : ∀ (fs : (cc0_scratch1 : Ref sig .tc).ty.Contents (Elt F)) (fo : (main_v1 : Ref sig .tc).ty.Contents (Elt F)),
      (iprop((((oM.slice (Rect.unit (s := S12288x1536) ![1536 * j.val + 768 * h.val, 0] S768x1536.size inbo) hso).view.loc (c : Thread nD τ))
            ↦[band (1536 * j.val + 768 * h.val)]{fullShare}
            ((oM.slice (Rect.unit (s := S12288x1536) ![1536 * j.val + 768 * h.val, 0] S768x1536.size inbo) hso).view.write (Elt F) fo
              ((ReadAs.same).apply (((sM.slice (Rect.unit (s := S4x768x1536) ![s.val, 0, 0] S1x768x1536.size inbs'') hst).squeeze S768x1536 hsq).view.read (Elt F)
                ((sM.access (Rect.unit (s := S4x768x1536) ![s.val, 0, 0] S1x768x1536.size inbs')).write (Elt F) fs (k0_pay2 (part m j (768 * h.val) hh) (bAt m c)) Finset.univ))) Finset.univ))
          ∗ ((((sM.slice (Rect.unit (s := S4x768x1536) ![s.val, 0, 0] S1x768x1536.size inbs'') hst).squeeze S768x1536 hsq).view.loc (c : Thread nD τ))
            ↦[((sM.slice (Rect.unit (s := S4x768x1536) ![s.val, 0, 0] S1x768x1536.size inbs'') hst).squeeze S768x1536 hsq).view.set]{fullShare}
            ((sM.access (Rect.unit (s := S4x768x1536) ![s.val, 0, 0] S1x768x1536.size inbs')).write (Elt F) fs (k0_pay2 (part m j (768 * h.val) hh) (bAt m c)) Finset.univ))) : sProp 𝕄)
        ⊢ iprop((((c : Thread nD τ).loc main_v1) ↦[band (1536 * j.val + 768 * h.val)]{fullShare} (prod m c))
            ∗ ∃ f, ((c : Thread nD τ).loc cc0_scratch1) ↦[slot s]{fullShare} f) := fun fs fo => by
    have he : ∀ y ∈ band (1536 * j.val + 768 * h.val),
        (oM.slice (Rect.unit (s := S12288x1536) ![1536 * j.val + 768 * h.val, 0] S768x1536.size inbo) hso).view.write (Elt F) fo
              ((ReadAs.same).apply (((sM.slice (Rect.unit (s := S4x768x1536) ![s.val, 0, 0] S1x768x1536.size inbs'') hst).squeeze S768x1536 hsq).view.read (Elt F)
                ((sM.access (Rect.unit (s := S4x768x1536) ![s.val, 0, 0] S1x768x1536.size inbs')).write (Elt F) fs (k0_pay2 (part m j (768 * h.val) hh) (bAt m c)) Finset.univ))) Finset.univ y
          = prod m c y := fun y hy => write_prod m c j h s inbs' inbo hh hst hso hsq fs fo y hy
    rw [hsrc]
    iintro ⟨Ho, Hs⟩
    isplitl [Ho]
    · iapply (oPts_of m c _ _ he)
      iexact Ho
    · iexists _
      iexact Hs
  unfold bPts gPts free oPts busy sPts
  iintro Hg Hb ⟨⟨%fs, Hs⟩, Hz⟩ ⟨%fo, Ho⟩ Hk
  iapply (wp_load_rect 𝒱₀ (c : Thread nD τ) none Set.univ (m := gM) hin) $$ Hg; iintro Hg
  iapply (wp_load 𝒱₀ (c : Thread nD τ) none Set.univ (m := bM) (Finset.subset_univ _)) $$ Hb; iintro Hb
  iapply (wp_load_rect 𝒱₀ (c : Thread nD τ) none Set.univ (m := sM) (hins.subset)) $$ Hs; iintro Hs
  iapply (wp_store 𝒱₀ (c : Thread nD τ) none Set.univ (m := sM) (Mk := Finset.univ) hins') $$ Hs; iintro Hs
  rw [read_b, hP, show (gM.access (Rect.unit (s := S8x1536x768) ![j.val, 768 * h.val, 0] S1x768x768.size inb)).read (Elt F) (gath m)
    = part m j (768 * h.val) hh from read_part m hh inb]
  iapply (Transfers.wp_dmaLocal EC 𝒱₀ (c : Thread nD τ) none (q := fullShare) (sm := .dma (copyS s))
      (src := (sM.slice (Rect.unit (s := S4x768x1536) ![s.val, 0, 0] S1x768x1536.size inbs'') hst).squeeze S768x1536 hsq)
      (dst := oM.slice (Rect.unit (s := S12288x1536) ![1536 * j.val + 768 * h.val, 0] S768x1536.size inbo) hso)
      (fs := (sM.access (Rect.unit (s := S4x768x1536) ![s.val, 0, 0] S1x768x1536.size inbs')).write (Elt F) fs (k0_pay2 (part m j (768 * h.val) hh) (bAt m c)) Finset.univ)
      (Sd := band (1536 * j.val + 768 * h.val)) (fd := fo) () amtOut amtOut_slice amtOut_pos
      hdst.subset) $$ [Hs Ho Hz]
  · isplitl [Hs]; · rw [hsrc]; iexact Hs
    isplitl [Ho]; · iexact Ho
    iexact Hz
  iintro Hf
  iapply Hk $$ Hg Hb
  iapply (Transfers.Flight_mono EC (c : Thread nD τ) (hD fs fo))
  iexact Hf

/-- The wait for the copy out of slot `s`. -/
theorem step_copied (c : Dev nD) (s : Fin 4) (lo : ℕ) (is)
    {sm : DmaSem sig} (hsm : sm = copyS s) {sp sp'} {S' : Shape} {e'} {src : Memref sig .tc sp' S' e'} {dst : Memref sig .tc sp S768x1536 .bf16}
    (hd : dst.view.ref = main_v1) {hsrc} {hdst} :
    recs m K ⊢ iprop(busy m c s lo -∗ ow c [] is
      -∗ (ow c [] is -∗ free c s -∗ oPts c lo (prod m c) -∗ wp frame (wpE (defs₀ (F := F)) 𝒱₀ c none) Set.univ (k ⟨⟩) Q)
      -∗ wp frame (wpE (defs₀ (F := F)) 𝒱₀ c none) Set.univ (.op (.waitDma2 sm src dst hsrc hdst) k) Q) := by
  subst hsm
  unfold busy ow free
  iintro #HR Hf ⟨%W, HO⟩ Hk
  iapply (Transfers.wp_waitLocalO EC 𝒱₀ (c : Thread nD τ) none () (amtOut_eq dst.view hd)) $$ [Hf HO]
  · isplitl [Hf]; · iexact Hf
    isplitl [HO]; · iexact HO
    iapply (mayWait c (.dma (copyS s)) [] is (fun _ h => nomatch h) (fun x hx => by
      have : lvl (.dma (copyS s)) = 0 := by unfold lvl; rw [role_copy]
      omega))
    iapply (recs_lev m K); iexact HR
  iintro ⟨⟨Ho, Hs⟩, Hz, HO⟩
  iapply Hk $$ [HO] [Hs Hz] Ho
  · iexists _; iexact HO
  · isplitl [Hs] <;> iassumption

end Cert.Gather

end
-- ==== Proof.Pieces.lean ====
/-
How the pieces of the gathered array that transfers carry fit together.
-/
module

public import proofs.«01_k».proof.Proof.Compute

@[expose] public section

noncomputable section

namespace Cert.Gather

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-- A piece splits at a row. -/
theorem gPts_rows (c j : Dev nD) (lo n n₁ n₂ : ℕ) (hn : n = n₁ + n₂) (q : PosShare TreeShare) (f) :
    (gPts (F := F) c j lo n q f) = iprop(gPts c j lo n₁ q f ∗ gPts c j (lo + n₁) n₂ q f) := by
  subst hn
  unfold gPts
  have hu : rows j lo (n₁ + n₂) = rows j lo n₁ ∪ rows j (lo + n₁) n₂ := by
    ext x; rw [Finset.mem_union, mem_rows, mem_rows, mem_rows]; omega
  have hd : Disjoint (rows j lo n₁) (rows j (lo + n₁) n₂) := by
    rw [Finset.disjoint_left]; intro x h h'; rw [mem_rows] at h h'; omega
  rw [hu]
  have h : ((((c : Thread nD τ).loc cc0_scratch0) ↦[rows j lo n₁ ∪ rows j (lo + n₁) n₂]{q} f) : sProp 𝕄)
      ⊣⊢ iprop((((c : Thread nD τ).loc cc0_scratch0) ↦[rows j lo n₁]{q} f) ∗ ((c : Thread nD τ).loc cc0_scratch0) ↦[rows j (lo + n₁) n₂]{q} f) :=
    pointsTo_union hd
  exact BI.equiv_iff.mp ⟨h.1, h.2⟩

/-- A piece splits into two shares. -/
theorem gPts_share (c j : Dev nD) (lo n : ℕ) (q : PosShare TreeShare) (f) :
    (gPts (F := F) c j lo n q f) = iprop(gPts c j lo n q.left f ∗ gPts c j lo n q.right f) := by
  unfold gPts
  have h : ((((c : Thread nD τ).loc cc0_scratch0) ↦[rows j lo n]{q} f) : sProp 𝕄)
      ⊣⊢ iprop((((c : Thread nD τ).loc cc0_scratch0) ↦[rows j lo n]{q.left} f) ∗ ((c : Thread nD τ).loc cc0_scratch0) ↦[rows j lo n]{q.right} f) :=
    pointsTo_share (PosShare.mem_left_op_right q)
  exact BI.equiv_iff.mp ⟨h.1, h.2⟩

section
variable (c : Dev nD)

/-- The own chunk splits into halves, and each half is lent to three transfers. -/
theorem own_halves (f) : (gPts (F := F) c (hop 0 c) 0 1536 fullShare f)
    = iprop(gPts c (hop 0 c) 0 768 fullShare f ∗ gPts c (hop 0 c) 768 768 fullShare f) :=
  gPts_rows c _ 0 1536 768 768 rfl _ _
/-- The lower half of a device's own rows is what its first three sends of it borrow. -/
theorem own_lent0 : gPts c (hop 0 c) 0 768 fullShare (gath m) = iprop(sendPay m c 0 ∗ sendPay m c 2 ∗ sendPay m c 4) := by
  rw [gPts_share, gPts_share c (hop 0 c) 0 768 fullShare.right]; rfl
/-- The upper half likewise. -/
theorem own_lent1 : gPts c (hop 0 c) 768 768 fullShare (gath m) = iprop(sendPay m c 1 ∗ sendPay m c 3 ∗ sendPay m c 5) := by
  rw [gPts_share, gPts_share c (hop 0 c) 768 768 fullShare.right]; rfl

/-- The halves that arrived in the first phase are each lent to one transfer of the second. -/
theorem relay_0 : recvPay m c 0 = iprop(gPts c (hop 1 c) 0 768 fullShare.left (gath m) ∗ sendPay m c 10) :=
  gPts_share c (hop 1 c) 0 768 fullShare (gath m)
/-- What transfer 1 brings: a share to read, and a share to send on. -/
theorem relay_1 : recvPay m c 1 = iprop(gPts c (hop 1 c) 768 768 fullShare.left (gath m) ∗ sendPay m c 11) :=
  gPts_share c (hop 1 c) 768 768 fullShare (gath m)
/-- What transfer 2 brings: a share to read, and a share to send on. -/
theorem relay_2 : recvPay m c 2 = iprop(gPts c (hop 3 c) 0 768 fullShare.left (gath m) ∗ sendPay m c 6) :=
  gPts_share c (hop 3 c) 0 768 fullShare (gath m)
/-- What transfer 3 brings: a share to read, and a share to send on. -/
theorem relay_3 : recvPay m c 3 = iprop(gPts c (hop 3 c) 768 768 fullShare.left (gath m) ∗ sendPay m c 7) :=
  gPts_share c (hop 3 c) 768 768 fullShare (gath m)
/-- What transfer 4 brings: a share to read, and a share to send on. -/
theorem relay_4 : recvPay m c 4 = iprop(gPts c (hop 4 c) 0 768 fullShare.left (gath m) ∗ sendPay m c 8) :=
  gPts_share c (hop 4 c) 0 768 fullShare (gath m)
/-- What transfer 5 brings: a share to read, and a share to send on. -/
theorem relay_5 : recvPay m c 5 = iprop(gPts c (hop 4 c) 768 768 fullShare.left (gath m) ∗ sendPay m c 9) :=
  gPts_share c (hop 4 c) 768 768 fullShare (gath m)

/-- The halves that arrived in the second phase, and the thirds lent in the last. -/
theorem got_8 : recvPay m c 8 = iprop(gPts c (hop 7 c) 0 768 fullShare.left (gath m) ∗ sendPay m c 12
    ∗ gPts c (hop 7 c) 512 256 fullShare.right (gath m)) := by
  show gPts c (hop 7 c) 0 768 fullShare (gath m) = _
  rw [gPts_share, gPts_rows c (hop 7 c) 0 768 512 256 rfl fullShare.right]; rfl
/-- What transfer 9 brings. -/
theorem got_9 : recvPay m c 9 = gPts c (hop 7 c) 768 768 fullShare (gath m) := rfl
/-- What transfer 10 brings. -/
theorem got_10 : recvPay m c 10 = gPts c (hop 5 c) 0 768 fullShare (gath m) := rfl
/-- What transfer 11 brings, beside what transfer 10 brought. -/
theorem got_11 : iprop(gPts c (hop 5 c) 0 768 fullShare (gath m) ∗ recvPay m c 11)
    = iprop(gPts c (hop 5 c) 0 1536 fullShare.left (gath m) ∗ gPts c (hop 5 c) 0 512 fullShare.right (gath m)
      ∗ sendPay m c 14 ∗ gPts c (hop 5 c) 1024 512 fullShare.right (gath m)) := by
  refine (gPts_rows c (hop 5 c) 0 1536 768 768 rfl fullShare (gath m)).symm.trans ?_
  rw [gPts_share, gPts_rows c (hop 5 c) 0 1536 512 1024 rfl fullShare.right, gPts_rows c (hop 5 c) (0 + 512) 1024 512 512 rfl fullShare.right]; rfl
/-- What transfer 6 brings. -/
theorem got_6 : recvPay m c 6 = gPts c (hop 2 c) 0 768 fullShare (gath m) := rfl
/-- What transfer 7 brings. -/
theorem got_7 : recvPay m c 7 = iprop(gPts c (hop 2 c) 768 768 fullShare.left (gath m)
    ∗ gPts c (hop 2 c) 768 256 fullShare.right (gath m) ∗ sendPay m c 16) := by
  show gPts c (hop 2 c) 768 768 fullShare (gath m) = _
  rw [gPts_share, gPts_rows c (hop 2 c) 768 768 256 512 rfl fullShare.right]; rfl
/-- The three thirds of the last phase make up the opposite corner's chunk. -/
theorem got_last : iprop(recvPay m c 12 ∗ recvPay m c 14 ∗ recvPay m c 16) = gPts c (hop 6 c) 0 1536 fullShare (gath m) := by
  rw [gPts_rows c (hop 6 c) 0 1536 512 1024 rfl fullShare, gPts_rows c (hop 6 c) (0 + 512) 1024 512 512 rfl fullShare]; rfl

/-- Both halves of a chunk make the chunk. -/
theorem halves (t : Fin 8) (f) : (gPts (F := F) c (hop t c) 0 1536 fullShare f)
    = iprop(gPts c (hop t c) 0 768 fullShare f ∗ gPts c (hop t c) 768 768 fullShare f) :=
  gPts_rows c _ 0 1536 768 768 rfl _ _

/-- What a barrier signal over each link hands over, listed. -/
theorem barPay_0 : barPay (F := F) c 0 = iprop(landing c 0 ∗ landing c 1 ∗ landing c 6 ∗ landing c 7 ∗ landing c 12) := rfl
/-- What the signal over link 1 hands over. -/
theorem barPay_1 : barPay (F := F) c 1 = iprop(landing c 2 ∗ landing c 3 ∗ landing c 8 ∗ landing c 9 ∗ landing c 14) := rfl
/-- What the signal over link 2 hands over. -/
theorem barPay_2 : barPay (F := F) c 2 = iprop(landing c 4 ∗ landing c 5 ∗ landing c 10 ∗ landing c 11 ∗ landing c 16) := rfl

end

end Cert.Gather

end
-- ==== Proof.Walk.lean ====
/-
The body, operation by operation, on one device.
-/
module

public import proofs.«01_k».proof.Proof.Pieces

@[expose] public section

noncomputable section

namespace Cert.Gather

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Fin 37 → ℕ)

/-- What the body starts from on device `c`. -/
def bodyIn (c : Dev nD) : sProp 𝕄 :=
  iprop(aPts m c ∗ bPts m c ∗ (∃ f, gPts c (hop 0 c) 0 1536 fullShare f) ∗ ow c [0, 1, 2] [0, 1, 2, 3, 4, 5, 10, 6, 8, 11, 7, 9, 12, 14, 16]
    ∗ (dutyTok ER (barCell (hop (tag 0) c)) 0 0 ∗ dutyTok ER (barCell (hop (tag 1) c)) 0 1 ∗ dutyTok ER (barCell (hop (tag 2) c)) 0 2)
    ∗ (barPay (hop (tag 0) c) 0 ∗ barPay (hop (tag 1) c) 1 ∗ barPay (hop (tag 2) c) 2)
    ∗ cred (tallyAt (barCell c) () 3) ∗ atPos ER (barCell c) 0 ∅ 0
    ∗ (free c 0 ∗ free c 1 ∗ free c 2 ∗ free c 3)
    ∗ ((∃ f, oPts c (1536 * (hop 0 c).val + 768 * (0 : Fin 2).val) f)
    ∗ (∃ f, oPts c (1536 * (hop 0 c).val + 768 * (1 : Fin 2).val) f)
    ∗ (∃ f, oPts c (1536 * (hop 1 c).val + 768 * (0 : Fin 2).val) f)
    ∗ (∃ f, oPts c (1536 * (hop 1 c).val + 768 * (1 : Fin 2).val) f)
    ∗ (∃ f, oPts c (1536 * (hop 2 c).val + 768 * (0 : Fin 2).val) f)
    ∗ (∃ f, oPts c (1536 * (hop 2 c).val + 768 * (1 : Fin 2).val) f)
    ∗ (∃ f, oPts c (1536 * (hop 3 c).val + 768 * (0 : Fin 2).val) f)
    ∗ (∃ f, oPts c (1536 * (hop 3 c).val + 768 * (1 : Fin 2).val) f)
    ∗ (∃ f, oPts c (1536 * (hop 4 c).val + 768 * (0 : Fin 2).val) f)
    ∗ (∃ f, oPts c (1536 * (hop 4 c).val + 768 * (1 : Fin 2).val) f)
    ∗ (∃ f, oPts c (1536 * (hop 5 c).val + 768 * (0 : Fin 2).val) f)
    ∗ (∃ f, oPts c (1536 * (hop 5 c).val + 768 * (1 : Fin 2).val) f)
    ∗ (∃ f, oPts c (1536 * (hop 6 c).val + 768 * (0 : Fin 2).val) f)
    ∗ (∃ f, oPts c (1536 * (hop 6 c).val + 768 * (1 : Fin 2).val) f)
    ∗ (∃ f, oPts c (1536 * (hop 7 c).val + 768 * (0 : Fin 2).val) f)
    ∗ (∃ f, oPts c (1536 * (hop 7 c).val + 768 * (1 : Fin 2).val) f))
    ∗ (sendKit c 0 ∗ sendKit c 1 ∗ sendKit c 2 ∗ sendKit c 3 ∗ sendKit c 4 ∗ sendKit c 5 ∗ sendKit c 6 ∗ sendKit c 7 ∗ sendKit c 8 ∗ sendKit c 9 ∗ sendKit c 10 ∗ sendKit c 11 ∗ sendKit c 12 ∗ sendKit c 14 ∗ sendKit c 16)
    ∗ (recvKit c 0 ∗ recvKit c 1 ∗ recvKit c 2 ∗ recvKit c 3 ∗ recvKit c 4 ∗ recvKit c 5 ∗ recvKit c 6 ∗ recvKit c 7 ∗ recvKit c 8 ∗ recvKit c 9 ∗ recvKit c 10 ∗ recvKit c 11 ∗ recvKit c 12 ∗ recvKit c 14 ∗ recvKit c 16))

/-- What it ends with. -/
def bodyOut (c : Dev nD) : sProp 𝕄 :=
  iprop(aPts m c ∗ bPts m c ∗ (gPts c (hop 0 c) 0 1536 fullShare (gath m) ∗ gPts c (hop 1 c) 0 1536 fullShare (gath m) ∗ gPts c (hop 2 c) 0 1536 fullShare (gath m) ∗ gPts c (hop 3 c) 0 1536 fullShare (gath m) ∗ gPts c (hop 4 c) 0 1536 fullShare (gath m) ∗ gPts c (hop 5 c) 0 1536 fullShare (gath m) ∗ gPts c (hop 6 c) 0 1536 fullShare (gath m) ∗ gPts c (hop 7 c) 0 1536 fullShare (gath m)) ∗ ow c [] []
    ∗ semVal (barCell c) 0
    ∗ (free c 0 ∗ free c 1 ∗ free c 2 ∗ free c 3)
    ∗ (oPts c (1536 * (hop 0 c).val + 768 * (0 : Fin 2).val) (prod m c)
    ∗ oPts c (1536 * (hop 0 c).val + 768 * (1 : Fin 2).val) (prod m c)
    ∗ oPts c (1536 * (hop 1 c).val + 768 * (0 : Fin 2).val) (prod m c)
    ∗ oPts c (1536 * (hop 1 c).val + 768 * (1 : Fin 2).val) (prod m c)
    ∗ oPts c (1536 * (hop 2 c).val + 768 * (0 : Fin 2).val) (prod m c)
    ∗ oPts c (1536 * (hop 2 c).val + 768 * (1 : Fin 2).val) (prod m c)
    ∗ oPts c (1536 * (hop 3 c).val + 768 * (0 : Fin 2).val) (prod m c)
    ∗ oPts c (1536 * (hop 3 c).val + 768 * (1 : Fin 2).val) (prod m c)
    ∗ oPts c (1536 * (hop 4 c).val + 768 * (0 : Fin 2).val) (prod m c)
    ∗ oPts c (1536 * (hop 4 c).val + 768 * (1 : Fin 2).val) (prod m c)
    ∗ oPts c (1536 * (hop 5 c).val + 768 * (0 : Fin 2).val) (prod m c)
    ∗ oPts c (1536 * (hop 5 c).val + 768 * (1 : Fin 2).val) (prod m c)
    ∗ oPts c (1536 * (hop 6 c).val + 768 * (0 : Fin 2).val) (prod m c)
    ∗ oPts c (1536 * (hop 6 c).val + 768 * (1 : Fin 2).val) (prod m c)
    ∗ oPts c (1536 * (hop 7 c).val + 768 * (0 : Fin 2).val) (prod m c)
    ∗ oPts c (1536 * (hop 7 c).val + 768 * (1 : Fin 2).val) (prod m c))
    ∗ (semVal (sendCell c 0) 0 ∗ semVal (sendCell c 1) 0 ∗ semVal (sendCell c 2) 0 ∗ semVal (sendCell c 3) 0 ∗ semVal (sendCell c 4) 0 ∗ semVal (sendCell c 5) 0 ∗ semVal (sendCell c 6) 0 ∗ semVal (sendCell c 7) 0 ∗ semVal (sendCell c 8) 0 ∗ semVal (sendCell c 9) 0 ∗ semVal (sendCell c 10) 0 ∗ semVal (sendCell c 11) 0 ∗ semVal (sendCell c 12) 0 ∗ semVal (sendCell c 14) 0 ∗ semVal (sendCell c 16) 0)
    ∗ (semVal (recvCell c 0) 0 ∗ semVal (recvCell c 1) 0 ∗ semVal (recvCell c 2) 0 ∗ semVal (recvCell c 3) 0 ∗ semVal (recvCell c 4) 0 ∗ semVal (recvCell c 5) 0 ∗ semVal (recvCell c 6) 0 ∗ semVal (recvCell c 7) 0 ∗ semVal (recvCell c 8) 0 ∗ semVal (recvCell c 9) 0 ∗ semVal (recvCell c 10) 0 ∗ semVal (recvCell c 11) 0 ∗ semVal (recvCell c 12) 0 ∗ semVal (recvCell c 14) 0 ∗ semVal (recvCell c 16) 0))

set_option maxRecDepth 65536 in
set_option maxHeartbeats 40000000 in
/-- The body on device `c`: from `bodyIn` it runs to `bodyOut`. -/
theorem walk (c : Dev nD) (Q : PUnit → sProp 𝕄) :
    iprop(recs m K ∗ bodyIn m c ∗ (bodyOut m c -∗ Q ⟨⟩))
      ⊢ wp frame (wpE (defs₀ (F := F)) 𝒱₀ c none) Set.univ
        (cc0_body aM (Memref.isWhole_whole _) bM (Memref.isWhole_whole _) oM (Memref.isWhole_whole _)
          gM (Memref.isWhole_whole _) sM (Memref.isWhole_whole _) cc0_scratch2 cc0_scratch3 cc0_scratch4) Q := by
  simp only [cc0_body_eq_skeleton]; unfold cc0_body_skel
  simp only [k0_part31_eq_skeleton]; unfold k0_part31_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton]
  unfold k0_part1_skel k0_part2_skel k0_part3_skel k0_part4_skel k0_part5_skel k0_part6_skel k0_part7_skel k0_part8_skel k0_part9_skel k0_part10_skel k0_part11_skel k0_part12_skel k0_part13_skel k0_part14_skel k0_part15_skel k0_part16_skel k0_part17_skel k0_part18_skel k0_part19_skel k0_part20_skel k0_part21_skel k0_part22_skel k0_part23_skel k0_part24_skel k0_part25_skel k0_part26_skel k0_part27_skel k0_part28_skel k0_part29_skel k0_part30_skel
  simp only [semSignalWord, semWaitWord, Prog.lift, Prog.bind_op, Prog.bind_ret, Prog.pure_eq_ret, wp_deviceId]
  unfold bodyIn
  iintro ⟨#HR, ⟨Ha, Hb, G, HO, ⟨T0, T1, T2⟩, ⟨B0, B1, B2⟩, Cb, Ab, ⟨F0, F1, F2, F3⟩,
    ⟨O00, O01, O10, O11, O20, O21, O30, O31, O40, O41, O50, O51, O60, O61, O70, O71⟩,
    ⟨S0, S1, S2, S3, S4, S5, S6, S7, S8, S9, S10, S11, S12, S14, S16⟩,
    ⟨R0, R1, R2, R3, R4, R5, R6, R7, R8, R9, R10, R11, R12, R14, R16⟩⟩, Hk⟩
  -- the own rows, and their two products
  iapply (step_own m c (off1_eq c) _ (fun _ => rfl)) $$ Ha G; iintro Ha G
  ihave G := (Entails.of_eq (own_halves c _)) $$ G
  icases G with ⟨G00, G01⟩
  iapply (step_half m c (hop 0 c) 0 0 0 768 fullShare (by decide) (by decide) (off2_eq c) (off3_eq0 c) rfl _ (fun _ _ => rfl)) $$ G00 Hb F0 O00; iintro G00 Hb F0
  iapply (step_half m c (hop 0 c) 1 1 768 768 fullShare (by decide) (by decide) (off4_eq c) (off3_eq1 c) rfl _ (fun _ _ => rfl)) $$ G01 Hb F1 O01; iintro G01 Hb F1
  -- the barrier
  iapply (step_signal m K c _ 0 (dev1_eq c) [1, 2] [0, 1, 2, 3, 4, 5, 10, 6, 8, 11, 7, 9, 12, 14, 16] rfl) $$ HR HO T0 B0; iintro HO
  iapply (step_signal m K c _ 1 (dev2_eq c) [2] [0, 1, 2, 3, 4, 5, 10, 6, 8, 11, 7, 9, 12, 14, 16] rfl) $$ HR HO T1 B1; iintro HO
  iapply (step_signal m K c _ 2 (dev3_eq c) [] [0, 1, 2, 3, 4, 5, 10, 6, 8, 11, 7, 9, 12, 14, 16] rfl) $$ HR HO T2 B2; iintro HO
  iapply (step_barrier m K c [0, 1, 2, 3, 4, 5, 10, 6, 8, 11, 7, 9, 12, 14, 16] rfl) $$ HR Cb Ab HO; iintro HO Zb B0 B1 B2
  ihave B0 := (Entails.of_eq (barPay_0 c)) $$ B0
  icases B0 with ⟨D0, D1, D6, D7, D12⟩
  ihave B1 := (Entails.of_eq (barPay_1 c)) $$ B1
  icases B1 with ⟨D2, D3, D8, D9, D14⟩
  ihave B2 := (Entails.of_eq (barPay_2 c)) $$ B2
  icases B2 with ⟨D4, D5, D10, D11, D16⟩
  ihave G00 := (Entails.of_eq (own_lent0 m c)) $$ G00
  icases G00 with ⟨V0, V2, V4⟩
  ihave G01 := (Entails.of_eq (own_lent1 m c)) $$ G01
  icases G01 with ⟨V1, V3, V5⟩
  -- the first phase's transfers
  iapply (step_send m K c _ 0 rfl (dev4_eq c) [1, 2, 3, 4, 5, 10, 6, 8, 11, 7, 9, 12, 14, 16] 768 rfl (off5_eq c) rfl rfl (amt_half 0 (by decide))) $$ HR V0 D0 HO S0; iintro HO S0
  iapply (step_send m K c _ 1 rfl (dev5_eq c) [2, 3, 4, 5, 10, 6, 8, 11, 7, 9, 12, 14, 16] 768 rfl (off6_eq c) rfl rfl (amt_half 1 (by decide))) $$ HR V1 D1 HO S1; iintro HO S1
  iapply (step_send m K c _ 2 rfl (dev6_eq c) [3, 4, 5, 10, 6, 8, 11, 7, 9, 12, 14, 16] 768 rfl (off5_eq c) rfl rfl (amt_half 2 (by decide))) $$ HR V2 D2 HO S2; iintro HO S2
  iapply (step_send m K c _ 3 rfl (dev7_eq c) [4, 5, 10, 6, 8, 11, 7, 9, 12, 14, 16] 768 rfl (off6_eq c) rfl rfl (amt_half 3 (by decide))) $$ HR V3 D3 HO S3; iintro HO S3
  iapply (step_send m K c _ 4 rfl (dev8_eq c) [5, 10, 6, 8, 11, 7, 9, 12, 14, 16] 768 rfl (off5_eq c) rfl rfl (amt_half 4 (by decide))) $$ HR V4 D4 HO S4; iintro HO S4
  iapply (step_send m K c _ 5 rfl (dev9_eq c) [10, 6, 8, 11, 7, 9, 12, 14, 16] 768 rfl (off6_eq c) rfl rfl (amt_half 5 (by decide))) $$ HR V5 D5 HO S5; iintro HO S5
  -- first halves arrive and go on
  iapply (step_recv m K c 0 rfl [10, 6, 8, 11, 7, 9, 12, 14, 16] (by decide) rfl rfl (amt_half 0 (by decide))) $$ HR R0 HO; iintro HO Y0 R0
  ihave R0 := (Entails.of_eq (relay_0 m c)) $$ R0
  icases R0 with ⟨G10, V10⟩
  iapply (step_send m K c _ 10 rfl (dev10_eq c) [6, 8, 11, 7, 9, 12, 14, 16] 768 rfl (off7_eq c) rfl rfl (amt_half 10 (by decide))) $$ HR V10 D10 HO S10; iintro HO S10
  iapply (step_half m c (hop 1 c) 0 2 0 768 fullShare.left (by decide) (by decide) (off8_eq c) (off9_eq0 c) rfl _ (fun _ _ => rfl)) $$ G10 Hb F2 O10; iintro G10 Hb F2
  iapply (step_recv m K c 2 rfl [6, 8, 11, 7, 9, 12, 14, 16] (by decide) rfl rfl (amt_half 2 (by decide))) $$ HR R2 HO; iintro HO Y2 R2
  ihave R2 := (Entails.of_eq (relay_2 m c)) $$ R2
  icases R2 with ⟨G30, V6⟩
  iapply (step_send m K c _ 6 rfl (dev11_eq c) [8, 11, 7, 9, 12, 14, 16] 768 rfl (off10_eq c) rfl rfl (amt_half 6 (by decide))) $$ HR V6 D6 HO S6; iintro HO S6
  iapply (step_half m c (hop 3 c) 0 3 0 768 fullShare.left (by decide) (by decide) (off11_eq c) (off12_eq0 c) rfl _ (fun _ _ => rfl)) $$ G30 Hb F3 O30; iintro G30 Hb F3
  iapply (step_recv m K c 4 rfl [8, 11, 7, 9, 12, 14, 16] (by decide) rfl rfl (amt_half 4 (by decide))) $$ HR R4 HO; iintro HO Y4 R4
  ihave R4 := (Entails.of_eq (relay_4 m c)) $$ R4
  icases R4 with ⟨G40, V8⟩
  iapply (step_send m K c _ 8 rfl (dev12_eq c) [11, 7, 9, 12, 14, 16] 768 rfl (off13_eq c) rfl rfl (amt_half 8 (by decide))) $$ HR V8 D8 HO S8; iintro HO S8
  iapply (step_copied m K c 0 _ [11, 7, 9, 12, 14, 16] rfl rfl) $$ HR F0 HO; iintro HO F0 O00
  iapply (step_half m c (hop 4 c) 0 0 0 768 fullShare.left (by decide) (by decide) (off14_eq c) (off15_eq0 c) rfl _ (fun _ _ => rfl)) $$ G40 Hb F0 O40; iintro G40 Hb F0
  -- second halves arrive and go on
  iapply (step_recv m K c 1 rfl [11, 7, 9, 12, 14, 16] (by decide) rfl rfl (amt_half 1 (by decide))) $$ HR R1 HO; iintro HO Y1 R1
  ihave R1 := (Entails.of_eq (relay_1 m c)) $$ R1
  icases R1 with ⟨G11, V11⟩
  iapply (step_send m K c _ 11 rfl (dev13_eq c) [7, 9, 12, 14, 16] 768 rfl (off16_eq c) rfl rfl (amt_half 11 (by decide))) $$ HR V11 D11 HO S11; iintro HO S11
  iapply (step_copied m K c 1 _ [7, 9, 12, 14, 16] rfl rfl) $$ HR F1 HO; iintro HO F1 O01
  iapply (step_half m c (hop 1 c) 1 1 768 768 fullShare.left (by decide) (by decide) (off17_eq c) (off9_eq1 c) rfl _ (fun _ _ => rfl)) $$ G11 Hb F1 O11; iintro G11 Hb F1
  iapply (step_recv m K c 3 rfl [7, 9, 12, 14, 16] (by decide) rfl rfl (amt_half 3 (by decide))) $$ HR R3 HO; iintro HO Y3 R3
  ihave R3 := (Entails.of_eq (relay_3 m c)) $$ R3
  icases R3 with ⟨G31, V7⟩
  iapply (step_send m K c _ 7 rfl (dev14_eq c) [9, 12, 14, 16] 768 rfl (off18_eq c) rfl rfl (amt_half 7 (by decide))) $$ HR V7 D7 HO S7; iintro HO S7
  iapply (step_copied m K c 2 _ [9, 12, 14, 16] rfl rfl) $$ HR F2 HO; iintro HO F2 O10
  iapply (step_half m c (hop 3 c) 1 2 768 768 fullShare.left (by decide) (by decide) (off19_eq c) (off12_eq1 c) rfl _ (fun _ _ => rfl)) $$ G31 Hb F2 O31; iintro G31 Hb F2
  iapply (step_recv m K c 5 rfl [9, 12, 14, 16] (by decide) rfl rfl (amt_half 5 (by decide))) $$ HR R5 HO; iintro HO Y5 R5
  ihave R5 := (Entails.of_eq (relay_5 m c)) $$ R5
  icases R5 with ⟨G41, V9⟩
  iapply (step_send m K c _ 9 rfl (dev15_eq c) [12, 14, 16] 768 rfl (off20_eq c) rfl rfl (amt_half 9 (by decide))) $$ HR V9 D9 HO S9; iintro HO S9
  iapply (step_copied m K c 3 _ [12, 14, 16] rfl rfl) $$ HR F3 HO; iintro HO F3 O30
  iapply (step_half m c (hop 4 c) 1 3 768 768 fullShare.left (by decide) (by decide) (off21_eq c) (off15_eq1 c) rfl _ (fun _ _ => rfl)) $$ G41 Hb F3 O41; iintro G41 Hb F3
  -- the second phase's arrivals, and the last phase's transfers
  iapply (step_recv m K c 8 rfl [12, 14, 16] (by decide) rfl rfl (amt_half 8 (by decide))) $$ HR R8 HO; iintro HO Y8 R8
  ihave R8 := (Entails.of_eq (got_8 m c)) $$ R8
  icases R8 with ⟨G70, V12, G7r⟩
  iapply (step_send m K c _ 12 rfl (dev16_eq c) [14, 16] 512 rfl (off22_eq c) rfl rfl (amt_third 12 (by decide))) $$ HR V12 D12 HO S12; iintro HO S12
  iapply (step_recv m K c 6 rfl [14, 16] (by decide) rfl rfl (amt_half 6 (by decide))) $$ HR R6 HO; iintro HO Y6 R6
  ihave G20 := (Entails.of_eq (got_6 m c)) $$ R6
  iapply (step_recv m K c 10 rfl [14, 16] (by decide) rfl rfl (amt_half 10 (by decide))) $$ HR R10 HO; iintro HO Y10 R10
  ihave G50 := (Entails.of_eq (got_10 m c)) $$ R10
  iapply (step_copied m K c 0 _ [14, 16] rfl rfl) $$ HR F0 HO; iintro HO F0 O40
  iapply (step_half m c (hop 2 c) 0 0 0 768 fullShare (by decide) (by decide) (off23_eq c) (off24_eq0 c) rfl _ (fun _ _ => rfl)) $$ G20 Hb F0 O20; iintro G20 Hb F0
  iapply (step_copied m K c 1 _ [14, 16] rfl rfl) $$ HR F1 HO; iintro HO F1 O11
  iapply (step_half m c (hop 7 c) 0 1 0 768 fullShare.left (by decide) (by decide) (off25_eq c) (off26_eq0 c) rfl _ (fun _ _ => rfl)) $$ G70 Hb F1 O70; iintro G70 Hb F1
  iapply (step_copied m K c 2 _ [14, 16] rfl rfl) $$ HR F2 HO; iintro HO F2 O31
  iapply (step_half m c (hop 5 c) 0 2 0 768 fullShare (by decide) (by decide) (off27_eq c) (off28_eq0 c) rfl _ (fun _ _ => rfl)) $$ G50 Hb F2 O50; iintro G50 Hb F2
  iapply (step_recv m K c 11 rfl [14, 16] (by decide) rfl rfl (amt_half 11 (by decide))) $$ HR R11 HO; iintro HO Y11 R11
  ihave G5 := (Entails.of_eq (got_11 m c)) $$ [G50 R11]
  · isplitl [G50]; · iexact G50
    iexact R11
  icases G5 with ⟨G5, G5a, V14, G5b⟩
  iapply (step_send m K c _ 14 rfl (dev17_eq c) [16] 512 rfl (off29_eq c) rfl rfl (amt_third 14 (by decide))) $$ HR V14 D14 HO S14; iintro HO S14
  iapply (step_recv m K c 7 rfl [16] (by decide) rfl rfl (amt_half 7 (by decide))) $$ HR R7 HO; iintro HO Y7 R7
  ihave R7 := (Entails.of_eq (got_7 m c)) $$ R7
  icases R7 with ⟨G21, G2r, V16⟩
  iapply (step_send m K c _ 16 rfl (dev18_eq c) [] 512 rfl (off30_eq c) rfl rfl (amt_third 16 (by decide))) $$ HR V16 D16 HO S16; iintro HO S16
  iapply (step_recv m K c 9 rfl [] (by decide) rfl rfl (amt_half 9 (by decide))) $$ HR R9 HO; iintro HO Y9 R9
  ihave G71 := (Entails.of_eq (got_9 m c)) $$ R9
  iapply (step_copied m K c 3 _ [] rfl rfl) $$ HR F3 HO; iintro HO F3 O41
  iapply (step_half m c (hop 2 c) 1 3 768 768 fullShare.left (by decide) (by decide) (off31_eq c) (off24_eq1 c) rfl _ (fun _ _ => rfl)) $$ G21 Hb F3 O21; iintro G21 Hb F3
  iapply (step_copied m K c 0 _ [] rfl rfl) $$ HR F0 HO; iintro HO F0 O20
  iapply (step_half m c (hop 7 c) 1 0 768 768 fullShare (by decide) (by decide) (off32_eq c) (off26_eq1 c) rfl _ (fun _ _ => rfl)) $$ G71 Hb F0 O71; iintro G71 Hb F0
  iapply (step_copied m K c 1 _ [] rfl rfl) $$ HR F1 HO; iintro HO F1 O70
  iapply (step_half m c (hop 5 c) 1 1 0 1536 fullShare.left (by decide) (by decide) (off33_eq c) (off28_eq1 c) rfl _ (fun _ _ => rfl)) $$ G5 Hb F1 O51; iintro G5 Hb F1
  -- the last phase's arrivals
  iapply (step_recv m K c 12 rfl [] (by decide) rfl rfl (amt_third 12 (by decide))) $$ HR R12 HO; iintro HO Y12 R12
  iapply (step_recv m K c 14 rfl [] (by decide) rfl rfl (amt_third 14 (by decide))) $$ HR R14 HO; iintro HO Y14 R14
  iapply (step_recv m K c 16 rfl [] (by decide) rfl rfl (amt_third 16 (by decide))) $$ HR R16 HO; iintro HO Y16 R16
  ihave G6 := (Entails.of_eq (got_last m c)) $$ [R12 R14 R16]
  · isplitl [R12]; · iexact R12
    isplitl [R14]; · iexact R14
    iexact R16
  iapply (step_copied m K c 2 _ [] rfl rfl) $$ HR F2 HO; iintro HO F2 O50
  iapply (step_half m c (hop 6 c) 0 2 0 1536 fullShare (by decide) (by decide) (off34_eq c) (off35_eq0 c) rfl _ (fun _ _ => rfl)) $$ G6 Hb F2 O60; iintro G6 Hb F2
  iapply (step_copied m K c 3 _ [] rfl rfl) $$ HR F3 HO; iintro HO F3 O21
  iapply (step_half m c (hop 6 c) 1 3 0 1536 fullShare (by decide) (by decide) (off36_eq c) (off35_eq1 c) rfl _ (fun _ _ => rfl)) $$ G6 Hb F3 O61; iintro G6 Hb F3
  -- the transfers have left, the copies have arrived
  iapply (step_sent m K c 0 rfl rfl rfl (amt_half 0 (by decide))) $$ HR S0 HO; iintro HO Z0 V0
  iapply (step_sent m K c 6 rfl rfl rfl (amt_half 6 (by decide))) $$ HR S6 HO; iintro HO Z6 V6
  iapply (step_sent m K c 1 rfl rfl rfl (amt_half 1 (by decide))) $$ HR S1 HO; iintro HO Z1 V1
  iapply (step_sent m K c 7 rfl rfl rfl (amt_half 7 (by decide))) $$ HR S7 HO; iintro HO Z7 V7
  iapply (step_sent m K c 12 rfl rfl rfl (amt_third 12 (by decide))) $$ HR S12 HO; iintro HO Z12 V12
  iapply (step_sent m K c 2 rfl rfl rfl (amt_half 2 (by decide))) $$ HR S2 HO; iintro HO Z2 V2
  iapply (step_sent m K c 8 rfl rfl rfl (amt_half 8 (by decide))) $$ HR S8 HO; iintro HO Z8 V8
  iapply (step_sent m K c 3 rfl rfl rfl (amt_half 3 (by decide))) $$ HR S3 HO; iintro HO Z3 V3
  iapply (step_sent m K c 9 rfl rfl rfl (amt_half 9 (by decide))) $$ HR S9 HO; iintro HO Z9 V9
  iapply (step_sent m K c 14 rfl rfl rfl (amt_third 14 (by decide))) $$ HR S14 HO; iintro HO Z14 V14
  iapply (step_sent m K c 4 rfl rfl rfl (amt_half 4 (by decide))) $$ HR S4 HO; iintro HO Z4 V4
  iapply (step_sent m K c 10 rfl rfl rfl (amt_half 10 (by decide))) $$ HR S10 HO; iintro HO Z10 V10
  iapply (step_sent m K c 5 rfl rfl rfl (amt_half 5 (by decide))) $$ HR S5 HO; iintro HO Z5 V5
  iapply (step_sent m K c 11 rfl rfl rfl (amt_half 11 (by decide))) $$ HR S11 HO; iintro HO Z11 V11
  iapply (step_sent m K c 16 rfl rfl rfl (amt_third 16 (by decide))) $$ HR S16 HO; iintro HO Z16 V16
  iapply (step_copied m K c 0 _ [] rfl rfl) $$ HR F0 HO; iintro HO F0 O71
  iapply (step_copied m K c 1 _ [] rfl rfl) $$ HR F1 HO; iintro HO F1 O51
  iapply (step_copied m K c 2 _ [] rfl rfl) $$ HR F2 HO; iintro HO F2 O60
  iapply (step_copied m K c 3 _ [] rfl rfl) $$ HR F3 HO; iintro HO F3 O61
  rw [wp_ret]; imodintro
  iapply Hk
  unfold bodyOut
  -- the chunks whole again
  ihave G00 := (Entails.of_eq (own_lent0 m c).symm) $$ [V0 V2 V4]
  · isplitl [V0]; · iexact V0
    isplitl [V2]; · iexact V2
    iexact V4
  ihave G01 := (Entails.of_eq (own_lent1 m c).symm) $$ [V1 V3 V5]
  · isplitl [V1]; · iexact V1
    isplitl [V3]; · iexact V3
    iexact V5
  ihave G10 := (Entails.of_eq (relay_0 m c).symm) $$ [G10 V10]
  · isplitl [G10]; · iexact G10
    iexact V10
  ihave G11 := (Entails.of_eq (relay_1 m c).symm) $$ [G11 V11]
  · isplitl [G11]; · iexact G11
    iexact V11
  ihave G30 := (Entails.of_eq (relay_2 m c).symm) $$ [G30 V6]
  · isplitl [G30]; · iexact G30
    iexact V6
  ihave G31 := (Entails.of_eq (relay_3 m c).symm) $$ [G31 V7]
  · isplitl [G31]; · iexact G31
    iexact V7
  ihave G40 := (Entails.of_eq (relay_4 m c).symm) $$ [G40 V8]
  · isplitl [G40]; · iexact G40
    iexact V8
  ihave G41 := (Entails.of_eq (relay_5 m c).symm) $$ [G41 V9]
  · isplitl [G41]; · iexact G41
    iexact V9
  ihave G70 := (Entails.of_eq (got_8 m c).symm) $$ [G70 V12 G7r]
  · isplitl [G70]; · iexact G70
    isplitl [V12]; · iexact V12
    iexact G7r
  ihave G5 := (Entails.of_eq (got_11 m c).symm) $$ [G5 G5a V14 G5b]
  · isplitl [G5]; · iexact G5
    isplitl [G5a]; · iexact G5a
    isplitl [V14]; · iexact V14
    iexact G5b
  icases G5 with ⟨G50, G51⟩
  ihave G21 := (Entails.of_eq (got_7 m c).symm) $$ [G21 G2r V16]
  · isplitl [G21]; · iexact G21
    isplitl [G2r]; · iexact G2r
    iexact V16
  ihave G10 := (Entails.of_eq (show recvPay m c 0 = gPts c (hop 1 c) 0 768 fullShare (gath m) from rfl)) $$ G10
  ihave G11 := (Entails.of_eq (show recvPay m c 1 = gPts c (hop 1 c) 768 768 fullShare (gath m) from rfl)) $$ G11
  ihave G21 := (Entails.of_eq (show recvPay m c 7 = gPts c (hop 2 c) 768 768 fullShare (gath m) from rfl)) $$ G21
  ihave G30 := (Entails.of_eq (show recvPay m c 2 = gPts c (hop 3 c) 0 768 fullShare (gath m) from rfl)) $$ G30
  ihave G31 := (Entails.of_eq (show recvPay m c 3 = gPts c (hop 3 c) 768 768 fullShare (gath m) from rfl)) $$ G31
  ihave G40 := (Entails.of_eq (show recvPay m c 4 = gPts c (hop 4 c) 0 768 fullShare (gath m) from rfl)) $$ G40
  ihave G41 := (Entails.of_eq (show recvPay m c 5 = gPts c (hop 4 c) 768 768 fullShare (gath m) from rfl)) $$ G41
  ihave G51 := (Entails.of_eq (show recvPay m c 11 = gPts c (hop 5 c) 768 768 fullShare (gath m) from rfl)) $$ G51
  ihave G70 := (Entails.of_eq (show recvPay m c 8 = gPts c (hop 7 c) 0 768 fullShare (gath m) from rfl)) $$ G70
  ihave G0 := (Entails.of_eq (halves c 0 (gath m)).symm) $$ [G00 G01]
  · isplitl [G00]; · iexact G00
    iexact G01
  ihave G1 := (Entails.of_eq (halves c 1 (gath m)).symm) $$ [G10 G11]
  · isplitl [G10]; · iexact G10
    iexact G11
  ihave G2 := (Entails.of_eq (halves c 2 (gath m)).symm) $$ [G20 G21]
  · isplitl [G20]; · iexact G20
    iexact G21
  ihave G3 := (Entails.of_eq (halves c 3 (gath m)).symm) $$ [G30 G31]
  · isplitl [G30]; · iexact G30
    iexact G31
  ihave G4 := (Entails.of_eq (halves c 4 (gath m)).symm) $$ [G40 G41]
  · isplitl [G40]; · iexact G40
    iexact G41
  ihave G5 := (Entails.of_eq (halves c 5 (gath m)).symm) $$ [G50 G51]
  · isplitl [G50]; · iexact G50
    iexact G51
  ihave G7 := (Entails.of_eq (halves c 7 (gath m)).symm) $$ [G70 G71]
  · isplitl [G70]; · iexact G70
    iexact G71
  isplitl [Ha]; · iexact Ha
  isplitl [Hb]; · iexact Hb
  isplitl [G0 G1 G2 G3 G4 G5 G6 G7]
  · isplitl [G0]; · iexact G0
    isplitl [G1]; · iexact G1
    isplitl [G2]; · iexact G2
    isplitl [G3]; · iexact G3
    isplitl [G4]; · iexact G4
    isplitl [G5]; · iexact G5
    isplitl [G6]; · iexact G6
    iexact G7
  isplitl [HO]; · iexact HO
  isplitl [Zb]; · iexact Zb
  isplitl [F0 F1 F2 F3]
  · isplitl [F0]; · iexact F0
    isplitl [F1]; · iexact F1
    isplitl [F2]; · iexact F2
    iexact F3
  isplitl [O00 O01 O10 O11 O20 O21 O30 O31 O40 O41 O50 O51 O60 O61 O70 O71]
  · isplitl [O00]; · iexact O00
    isplitl [O01]; · iexact O01
    isplitl [O10]; · iexact O10
    isplitl [O11]; · iexact O11
    isplitl [O20]; · iexact O20
    isplitl [O21]; · iexact O21
    isplitl [O30]; · iexact O30
    isplitl [O31]; · iexact O31
    isplitl [O40]; · iexact O40
    isplitl [O41]; · iexact O41
    isplitl [O50]; · iexact O50
    isplitl [O51]; · iexact O51
    isplitl [O60]; · iexact O60
    isplitl [O61]; · iexact O61
    isplitl [O70]; · iexact O70
    iexact O71
  isplitl [Z0 Z1 Z2 Z3 Z4 Z5 Z6 Z7 Z8 Z9 Z10 Z11 Z12 Z14 Z16]
  · isplitl [Z0]; · iexact Z0
    isplitl [Z1]; · iexact Z1
    isplitl [Z2]; · iexact Z2
    isplitl [Z3]; · iexact Z3
    isplitl [Z4]; · iexact Z4
    isplitl [Z5]; · iexact Z5
    isplitl [Z6]; · iexact Z6
    isplitl [Z7]; · iexact Z7
    isplitl [Z8]; · iexact Z8
    isplitl [Z9]; · iexact Z9
    isplitl [Z10]; · iexact Z10
    isplitl [Z11]; · iexact Z11
    isplitl [Z12]; · iexact Z12
    isplitl [Z14]; · iexact Z14
    iexact Z16
  isplitl [Y0]; · iexact Y0
  isplitl [Y1]; · iexact Y1
  isplitl [Y2]; · iexact Y2
  isplitl [Y3]; · iexact Y3
  isplitl [Y4]; · iexact Y4
  isplitl [Y5]; · iexact Y5
  isplitl [Y6]; · iexact Y6
  isplitl [Y7]; · iexact Y7
  isplitl [Y8]; · iexact Y8
  isplitl [Y9]; · iexact Y9
  isplitl [Y10]; · iexact Y10
  isplitl [Y11]; · iexact Y11
  isplitl [Y12]; · iexact Y12
  isplitl [Y14]; · iexact Y14
  iexact Y16

end Cert.Gather

end
-- ==== Proof.Layout.lean ====
/-
How each device's buffers split into the pieces that the body works on, and join again.
-/
module

public import proofs.«01_k».proof.Proof.Walk

@[expose] public section

noncomputable section

namespace Cert.Gather

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (c : Dev nD)

/-! ## The gathered array -/

/-- The places on `c` where the transfers from its neighbour over a link land. -/
theorem landing_here (l : Fin 3) (i : Fin 18) (h : lnk i = l) :
    landing (F := F) (hop (tag l) c) i = iprop(∃ f, gPts c (hop (dstTag i) c) (row0 i) (nrows i) fullShare f) := by
  subst h
  have h1 : peer i (hop (tag (lnk i)) c) = c := peer_peer i c
  have h2 : hop (srcTag i) (hop (tag (lnk i)) c) = hop (dstTag i) c := src_peer i c
  unfold landing
  rw [h1, h2]

/-- The gathered array is its eight chunks. -/
theorem g_chunks (f : (cc0_scratch0 : Ref sig .tc).ty.Contents (Elt F)) :
    ((((c : Thread nD τ).loc cc0_scratch0) ↦{fullShare} f) : sProp 𝕄)
      = iprop(gPts c (hop 0 c) 0 1536 fullShare f ∗ gPts c (hop 1 c) 0 1536 fullShare f ∗ gPts c (hop 2 c) 0 1536 fullShare f ∗ gPts c (hop 3 c) 0 1536 fullShare f ∗ gPts c (hop 4 c) 0 1536 fullShare f ∗ gPts c (hop 5 c) 0 1536 fullShare f ∗ gPts c (hop 6 c) 0 1536 fullShare f ∗ gPts c (hop 7 c) 0 1536 fullShare f) := by
  have hd : ∀ t ∈ (Finset.univ : Finset (Fin 8)), ∀ t' ∈ (Finset.univ : Finset (Fin 8)), t ≠ t' →
      Disjoint (rows (hop t c) 0 1536) (rows (hop t' c) 0 1536) := fun t _ t' _ hn => by
    rw [Finset.disjoint_left]; intro x h h'; rw [mem_rows] at h h'
    exact hn (hop_tag_inj c (Fin.ext (h.1.symm.trans h'.1)))
  have hu : (Finset.univ : Finset (Fin 8)).biUnion (fun t => rows (hop t c) 0 1536) = Finset.univ := by
    ext x
    have h1 : (x 1).val < 1536 := (x 1).isLt
    obtain ⟨t, ht⟩ := hop_surj c ⟨(x 0).val, (x 0).isLt⟩
    simp only [Finset.mem_biUnion, Finset.mem_univ, true_and, iff_true]
    exact ⟨t, mem_rows.mpr ⟨congrArg Fin.val ht, Nat.zero_le _, by omega⟩⟩
  have h := pointsTo_biUnion (Ix := Unit) (Name := ℕ) (U := UU) (Lvl := ℕ) (Val := Elt F) (ℓ := (c : Thread nD τ).loc cc0_scratch0) (q := fullShare) (f := f) Finset.univ (fun t : Fin 8 => rows (hop t c) 0 1536) hd
  rw [hu, bigSep_univ_eq_bigSepL [0, 1, 2, 3, 4, 5, 6, 7] (by decide) (by decide)] at h
  exact h

/-- It splits into the own chunk and the places for what each neighbour sends. -/
theorem g_split (f : (cc0_scratch0 : Ref sig .tc).ty.Contents (Elt F)) :
    ((((c : Thread nD τ).loc cc0_scratch0) ↦{fullShare} f) : sProp 𝕄)
      ⊢ iprop((∃ f, gPts c (hop 0 c) 0 1536 fullShare f) ∗ barPay (hop (tag 0) c) 0 ∗ barPay (hop (tag 1) c) 1 ∗ barPay (hop (tag 2) c) 2) := by
  rw [g_chunks, halves c 1, halves c 2, halves c 3, halves c 4, halves c 5, halves c 7,
    gPts_rows c (hop 6 c) 0 1536 512 1024 rfl, gPts_rows c (hop 6 c) (0 + 512) 1024 512 512 rfl, barPay_0, barPay_1, barPay_2]
  rw [landing_here c 0 0 rfl, landing_here c 0 1 rfl, landing_here c 0 6 rfl, landing_here c 0 7 rfl, landing_here c 0 12 rfl, landing_here c 1 2 rfl, landing_here c 1 3 rfl, landing_here c 1 8 rfl, landing_here c 1 9 rfl, landing_here c 1 14 rfl, landing_here c 2 4 rfl, landing_here c 2 5 rfl, landing_here c 2 10 rfl, landing_here c 2 11 rfl, landing_here c 2 16 rfl]
  iintro ⟨G0, ⟨G10, G11⟩, ⟨G20, G21⟩, ⟨G30, G31⟩, ⟨G40, G41⟩, ⟨G50, G51⟩, ⟨G60, G61, G62⟩, G70, G71⟩
  isplitl [G0]; · iexists f; iexact G0
  isplitl [G10 G11 G20 G21 G60]
  · isplitl [G10]; · iexists f; iexact G10
    isplitl [G11]; · iexists f; iexact G11
    isplitl [G20]; · iexists f; iexact G20
    isplitl [G21]; · iexists f; iexact G21
    iexists f; iexact G60
  isplitl [G30 G31 G70 G71 G61]
  · isplitl [G30]; · iexists f; iexact G30
    isplitl [G31]; · iexists f; iexact G31
    isplitl [G70]; · iexists f; iexact G70
    isplitl [G71]; · iexists f; iexact G71
    iexists f; iexact G61
  isplitl [G40]; · iexists f; iexact G40
  isplitl [G41]; · iexists f; iexact G41
  isplitl [G50]; · iexists f; iexact G50
  isplitl [G51]; · iexists f; iexact G51
  iexists f; iexact G62

/-! ## The result -/

set_option maxRecDepth 4000 in
/-- The result is its sixteen half blocks of rows. -/
theorem o_bands (f : (main_v1 : Ref sig .tc).ty.Contents (Elt F)) :
    ((((c : Thread nD τ).loc main_v1) ↦{fullShare} f) : sProp 𝕄)
      = iprop(oPts c (1536 * (hop 0 c).val + 768 * (0 : Fin 2).val) f
      ∗ oPts c (1536 * (hop 0 c).val + 768 * (1 : Fin 2).val) f
      ∗ oPts c (1536 * (hop 1 c).val + 768 * (0 : Fin 2).val) f
      ∗ oPts c (1536 * (hop 1 c).val + 768 * (1 : Fin 2).val) f
      ∗ oPts c (1536 * (hop 2 c).val + 768 * (0 : Fin 2).val) f
      ∗ oPts c (1536 * (hop 2 c).val + 768 * (1 : Fin 2).val) f
      ∗ oPts c (1536 * (hop 3 c).val + 768 * (0 : Fin 2).val) f
      ∗ oPts c (1536 * (hop 3 c).val + 768 * (1 : Fin 2).val) f
      ∗ oPts c (1536 * (hop 4 c).val + 768 * (0 : Fin 2).val) f
      ∗ oPts c (1536 * (hop 4 c).val + 768 * (1 : Fin 2).val) f
      ∗ oPts c (1536 * (hop 5 c).val + 768 * (0 : Fin 2).val) f
      ∗ oPts c (1536 * (hop 5 c).val + 768 * (1 : Fin 2).val) f
      ∗ oPts c (1536 * (hop 6 c).val + 768 * (0 : Fin 2).val) f
      ∗ oPts c (1536 * (hop 6 c).val + 768 * (1 : Fin 2).val) f
      ∗ oPts c (1536 * (hop 7 c).val + 768 * (0 : Fin 2).val) f
      ∗ oPts c (1536 * (hop 7 c).val + 768 * (1 : Fin 2).val) f) := by
  have hd : ∀ t ∈ (Finset.univ : Finset (Fin 8 × Fin 2)), ∀ t' ∈ (Finset.univ : Finset (Fin 8 × Fin 2)), t ≠ t' →
      Disjoint (band (1536 * (hop t.1 c).val + 768 * t.2.val)) (band (1536 * (hop t'.1 c).val + 768 * t'.2.val)) := fun t _ t' _ hn => by
    rw [Finset.disjoint_left]; intro x h h'; rw [mem_band] at h h'
    have h2 := t.2.isLt; have h2' := t'.2.isLt
    refine hn (Prod.ext (hop_tag_inj c (Fin.ext ?_)) (Fin.ext ?_)) <;> omega
  have hu : (Finset.univ : Finset (Fin 8 × Fin 2)).biUnion (fun t => band (1536 * (hop t.1 c).val + 768 * t.2.val)) = Finset.univ := by
    ext x
    have h0 : (x 0).val < 12288 := (x 0).isLt
    obtain ⟨t, ht⟩ := hop_surj c ⟨(x 0).val / 1536, by show _ < 8; omega⟩
    have ht' : (x 0).val / 1536 = (hop t c).val := congrArg Fin.val ht
    simp only [Finset.mem_biUnion, Finset.mem_univ, true_and, iff_true]
    refine ⟨(t, ⟨(x 0).val / 768 % 2, Nat.mod_lt _ (by decide)⟩), mem_band.mpr ?_⟩
    dsimp only
    constructor <;> omega
  have h := pointsTo_biUnion (Ix := Unit) (Name := ℕ) (U := UU) (Lvl := ℕ) (Val := Elt F) (ℓ := (c : Thread nD τ).loc main_v1) (q := fullShare) (f := f) Finset.univ
    (fun t : Fin 8 × Fin 2 => band (1536 * (hop t.1 c).val + 768 * t.2.val)) hd
  rw [hu, bigSep_univ_eq_bigSepL [(0, 0), (0, 1), (1, 0), (1, 1), (2, 0), (2, 1), (3, 0), (3, 1), (4, 0), (4, 1), (5, 0), (5, 1), (6, 0), (6, 1), (7, 0), (7, 1)] (by decide) (by decide)] at h
  exact h

/-- It splits into them, at whatever contents. -/
theorem o_split (f : (main_v1 : Ref sig .tc).ty.Contents (Elt F)) :
    ((((c : Thread nD τ).loc main_v1) ↦{fullShare} f) : sProp 𝕄)
      ⊢ iprop((∃ f, oPts (F := F) c (1536 * (hop 0 c).val + 768 * (0 : Fin 2).val) f)
      ∗ (∃ f, oPts (F := F) c (1536 * (hop 0 c).val + 768 * (1 : Fin 2).val) f)
      ∗ (∃ f, oPts (F := F) c (1536 * (hop 1 c).val + 768 * (0 : Fin 2).val) f)
      ∗ (∃ f, oPts (F := F) c (1536 * (hop 1 c).val + 768 * (1 : Fin 2).val) f)
      ∗ (∃ f, oPts (F := F) c (1536 * (hop 2 c).val + 768 * (0 : Fin 2).val) f)
      ∗ (∃ f, oPts (F := F) c (1536 * (hop 2 c).val + 768 * (1 : Fin 2).val) f)
      ∗ (∃ f, oPts (F := F) c (1536 * (hop 3 c).val + 768 * (0 : Fin 2).val) f)
      ∗ (∃ f, oPts (F := F) c (1536 * (hop 3 c).val + 768 * (1 : Fin 2).val) f)
      ∗ (∃ f, oPts (F := F) c (1536 * (hop 4 c).val + 768 * (0 : Fin 2).val) f)
      ∗ (∃ f, oPts (F := F) c (1536 * (hop 4 c).val + 768 * (1 : Fin 2).val) f)
      ∗ (∃ f, oPts (F := F) c (1536 * (hop 5 c).val + 768 * (0 : Fin 2).val) f)
      ∗ (∃ f, oPts (F := F) c (1536 * (hop 5 c).val + 768 * (1 : Fin 2).val) f)
      ∗ (∃ f, oPts (F := F) c (1536 * (hop 6 c).val + 768 * (0 : Fin 2).val) f)
      ∗ (∃ f, oPts (F := F) c (1536 * (hop 6 c).val + 768 * (1 : Fin 2).val) f)
      ∗ (∃ f, oPts (F := F) c (1536 * (hop 7 c).val + 768 * (0 : Fin 2).val) f)
      ∗ (∃ f, oPts (F := F) c (1536 * (hop 7 c).val + 768 * (1 : Fin 2).val) f)) := by
  rw [o_bands]
  iintro ⟨O00, O01, O10, O11, O20, O21, O30, O31, O40, O41, O50, O51, O60, O61, O70, O71⟩
  isplitl [O00]; · iexists f; iexact O00
  isplitl [O01]; · iexists f; iexact O01
  isplitl [O10]; · iexists f; iexact O10
  isplitl [O11]; · iexists f; iexact O11
  isplitl [O20]; · iexists f; iexact O20
  isplitl [O21]; · iexists f; iexact O21
  isplitl [O30]; · iexists f; iexact O30
  isplitl [O31]; · iexists f; iexact O31
  isplitl [O40]; · iexists f; iexact O40
  isplitl [O41]; · iexists f; iexact O41
  isplitl [O50]; · iexists f; iexact O50
  isplitl [O51]; · iexists f; iexact O51
  isplitl [O60]; · iexists f; iexact O60
  isplitl [O61]; · iexists f; iexact O61
  isplitl [O70]; · iexists f; iexact O70
  iexists f; iexact O71

/-! ## The staging buffer -/

/-- The slots are disjoint. -/
theorem slot_disjoint : ∀ s ∈ (Finset.univ : Finset (Fin 4)), ∀ s' ∈ (Finset.univ : Finset (Fin 4)), s ≠ s' → Disjoint (slot s) (slot s') :=
  fun s _ s' _ hn => by
    rw [Finset.disjoint_left]; intro x h h'; rw [mem_slot] at h h'
    exact hn (Fin.ext (h.symm.trans h'))
/-- The slots make up the stage buffer. -/
theorem slot_union : (Finset.univ : Finset (Fin 4)).biUnion slot = Finset.univ := by
  ext x
  simp only [Finset.mem_biUnion, Finset.mem_univ, true_and, iff_true]
  exact ⟨⟨(x 0).val, (x 0).isLt⟩, mem_slot.mpr rfl⟩

/-- The staging buffer splits into its four slots. -/
theorem s_split (f : (cc0_scratch1 : Ref sig .tc).ty.Contents (Elt F)) :
    ((((c : Thread nD τ).loc cc0_scratch1) ↦{fullShare} f) : sProp 𝕄)
      ⊢ iprop((∃ f, sPts (F := F) c 0 f) ∗ (∃ f, sPts (F := F) c 1 f) ∗ (∃ f, sPts (F := F) c 2 f) ∗ (∃ f, sPts (F := F) c 3 f)) := by
  have h := pointsTo_biUnion (Ix := Unit) (Name := ℕ) (U := UU) (Lvl := ℕ) (Val := Elt F) (ℓ := (c : Thread nD τ).loc cc0_scratch1) (q := fullShare) (f := f) Finset.univ slot slot_disjoint
  rw [slot_union, bigSep_univ_eq_bigSepL [0, 1, 2, 3] (by decide) (by decide)] at h
  have h' : ((((c : Thread nD τ).loc cc0_scratch1) ↦{fullShare} f) : sProp 𝕄)
      = iprop(sPts c 0 f ∗ sPts c 1 f ∗ sPts c 2 f ∗ sPts c 3 f) := h
  rw [h']
  iintro ⟨H0, H1, H2, H3⟩
  isplitl [H0]; · iexists f; iexact H0
  isplitl [H1]; · iexists f; iexact H1
  isplitl [H2]; · iexists f; iexact H2
  iexists f; iexact H3

/-- The slots join, at whatever contents. -/
theorem s_join :
    iprop((∃ f, sPts (F := F) c 0 f) ∗ (∃ f, sPts (F := F) c 1 f) ∗ (∃ f, sPts (F := F) c 2 f) ∗ (∃ f, sPts (F := F) c 3 f))
      ⊢ (iprop(∃ f : (cc0_scratch1 : Ref sig .tc).ty.Contents (Elt F), ((c : Thread nD τ).loc cc0_scratch1) ↦{fullShare} f) : sProp 𝕄) := by
  iintro ⟨⟨%f0, H0⟩, ⟨%f1, H1⟩, ⟨%f2, H2⟩, ⟨%f3, H3⟩⟩
  have h := pointsTo_biUnion_join (Ix := Unit) (Name := ℕ) (U := UU) (Lvl := ℕ) (Val := Elt F) (ℓ := (c : Thread nD τ).loc cc0_scratch1) (q := fullShare) Finset.univ slot
    (![f0, f1, f2, f3] : Fin 4 → (cc0_scratch1 : Ref sig .tc).ty.Contents (Elt F)) f0 slot_disjoint
  rw [slot_union, bigSep_univ_eq_bigSepL [0, 1, 2, 3] (by decide) (by decide)] at h
  have h' : iprop(sPts c 0 f0 ∗ sPts c 1 f1 ∗ sPts c 2 f2 ∗ sPts c 3 f3)
      ⊢ (iprop(∃ f : (cc0_scratch1 : Ref sig .tc).ty.Contents (Elt F), ((c : Thread nD τ).loc cc0_scratch1) ↦{fullShare} f) : sProp 𝕄) := by
    refine BI.Entails.trans (show _ ⊢ _ from h) ?_
    show (iprop(∃ g : (cc0_scratch1 : Ref sig .tc).ty.Contents (Elt F), ⌜∀ t ∈ Finset.univ, ∀ i ∈ slot t, g i = (![f0, f1, f2, f3] : Fin 4 → (cc0_scratch1 : Ref sig .tc).ty.Contents (Elt F)) t i⌝
        ∗ ((c : Thread nD τ).loc cc0_scratch1) ↦{fullShare} g) : sProp 𝕄) ⊢ _
    iintro ⟨%g, -, H⟩
    iexists g; iexact H
  iapply h'
  isplitl [H0]; · iexact H0
  isplitl [H1]; · iexact H1
  isplitl [H2]; · iexact H2
  iexact H3

end Cert.Gather

end
-- ==== Proof.Ghost.lean ====
/-
The protocol's state at launch: every semaphore's cell is opened, and the right to raise it goes to
the device that will.
-/
module

public import proofs.«01_k».proof.Proof.Layout

@[expose] public section

noncomputable section

namespace Cert.Gather

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## Conjunctions over the cells, sorted by kind -/

/-- The send cells among a device's cells. -/
def sendEmb : Fin 18 ↪ Fin 37 := ⟨ksend, by decide⟩
/-- The receive cells among a device's cells. -/
def recvEmb : Fin 18 ↪ Fin 37 := ⟨krecv, by decide⟩

/-- Over the cells with a schedule: the sends, the receives, the barrier. -/
theorem over_cells (Φ : Fin 37 → sProp 𝕄) :
    bigSep Finset.univ Φ = iprop((bigSep Finset.univ fun i : Fin 18 => Φ (ksend i)) ∗ (bigSep Finset.univ fun i : Fin 18 => Φ (krecv i)) ∗ Φ kbar) := by
  have h : (Finset.univ : Finset (Fin 37)) = Finset.univ.map sendEmb ∪ (Finset.univ.map recvEmb ∪ {kbar}) := by decide
  rw [h, bigSep_union (by decide), bigSep_union (by decide), bigSep_map, bigSep_map, bigSep_singleton]
  rfl

/-- The kernel's own semaphores: sends, receives, copies. -/
abbrev osem : Fin 40 → SemLoc sig := fun k => .dma (⟨2 + k.val, by omega⟩ : Fin 42)
/-- The kernel's own semaphores are distinct, and none is the pipeline's. -/
theorem ownSemFacts : Pipeline.OwnSemFacts cfg0.spec osem := by decide

/-- The send semaphores among them. -/
def ownSend : Fin 18 ↪ Fin 40 := ⟨fun i => ⟨i.val, by omega⟩, by decide⟩
/-- The receive semaphores among them. -/
def ownRecv : Fin 18 ↪ Fin 40 := ⟨fun i => ⟨18 + i.val, by omega⟩, by decide⟩
/-- The semaphores of the local copies among them. -/
def ownCopy : Fin 4 ↪ Fin 40 := ⟨fun s => ⟨36 + s.val, by omega⟩, by decide⟩
/-- Which semaphore each of the first is. -/
theorem osem_send : ∀ i, osem (ownSend i) = .dma (sendS i) := by decide
/-- Which each of the second is. -/
theorem osem_recv : ∀ i, osem (ownRecv i) = .dma (recvS i) := by decide
/-- Which each of the third is. -/
theorem osem_copy : ∀ s, osem (ownCopy s) = .dma (copyS s) := by decide

/-- The kernel's own semaphores at zero, sorted by what they are for. -/
theorem ownSems0_eq (c : Dev nD) : (Pipeline.ownSems0 (Ix := Unit) (Name := ℕ) (U := UU) (Lvl := ℕ) (Val := Elt F) (τ := τ) osem c : sProp 𝕄)
    = iprop((bigSep Finset.univ fun i : Fin 18 => semVal (sendCell c i) 0) ∗ (bigSep Finset.univ fun i : Fin 18 => semVal (recvCell c i) 0)
      ∗ bigSep Finset.univ fun s : Fin 4 => semVal (copyCell c s) 0) := by
  have h : (Finset.univ : Finset (Fin 40)) = Finset.univ.map ownSend ∪ (Finset.univ.map ownRecv ∪ Finset.univ.map ownCopy) := by decide
  unfold Pipeline.ownSems0
  rw [h, bigSep_union (by decide), bigSep_union (by decide), bigSep_map, bigSep_map, bigSep_map]
  simp only [osem_send, osem_recv, osem_copy]
  rfl

/-- The barrier semaphore outlives the kernel. -/
theorem unscopedSems0_eq (c : Dev nD) : (unscopedSems0 c : sProp 𝕄) = semVal (barCell c) 0 := by
  unfold unscopedSems0; rw [bigSep_eq_bigSepL_of_eq [SemLoc.reg barS] (by decide) (by decide)]; rfl

/-! ## The launch element -/

/-- A device's cells are distinct semaphores. -/
theorem csem_injective : Function.Injective csem := by decide
/-- The cells of all the devices are distinct. -/
theorem kcell_injective : Function.Injective (kcell : Dev nD × Fin 37 → GSem nD τ sig) := by
  rintro ⟨c, k⟩ ⟨c', k'⟩ h
  have h1 : c = c' := congrArg (fun g : GSem nD τ sig => g.1.1) h
  have h2 : k = k' := csem_injective (congrArg Prod.snd h)
  subst h1 h2; rfl
/-- All the cells. -/
def cells : Finset (GSem nD τ sig) := Finset.univ.map ⟨kcell, kcell_injective⟩

/-- The right to raise a cell, by the cell and the number of the duty. -/
def tokOf (x : (Dev nD × Fin 37) × Fin 3) : GSem nD τ sig × ℕ × Fin 3 := (kcell x.1, 0, x.2)
/-- These rights are distinct. -/
theorem tokOf_injective : Function.Injective tokOf := by
  rintro ⟨ck, d⟩ ⟨ck', d'⟩ h
  have h1 : ck = ck' := kcell_injective (congrArg (fun x : GSem nD τ sig × ℕ × Fin 3 => x.1) h)
  have h2 : d = d' := congrArg (fun x : GSem nD τ sig × ℕ × Fin 3 => x.2.2) h
  subst h1 h2; rfl
/-- All the rights. -/
def dutyToks : Finset (GSem nD τ sig × ℕ × Fin 3) := Finset.univ.map ⟨tokOf, tokOf_injective⟩

/-- The ghost state that the launch starts with. -/
def u₀ : UU :=
  (initOf (Pipeline.cells cfgs cellOf_inj) (Pipeline.launchToks cfgs cellOf_inj), (initOf cells dutyToks, 1))

/-- The rights to raise the semaphores of `c`. -/
def toks (c : Dev nD) : sProp 𝕄 :=
  bigSep Finset.univ fun k : Fin 37 => bigSep Finset.univ fun d : Fin 3 => dutyTok ER (kcell (c, k)) 0 d

/-- What the launch element deals `c`. -/
def G (c : Dev nD) : sProp 𝕄 :=
  iprop((bigSep Finset.univ fun k : Fin 37 => roundState ER (sched m) (kcell (c, k)) 0)
    ∗ (bigSep Finset.univ fun k : Fin 37 => iprop(atPos ER (kcell (c, k)) 0 ∅ 0 ∗ reached ER (kcell (c, k)) 0)) ∗ toks c)

/-- It gives each device its cells and the rights that come with them. -/
theorem fund_cells : BI.own (ER (initOf cells dutyToks)) ⊢ (|==> bigSep Finset.univ (G m) : sProp 𝕄) := by
  have hX (Φ : GSem nD τ sig → sProp 𝕄) : bigSep cells Φ = bigSep Finset.univ fun c : Dev nD => bigSep Finset.univ fun k : Fin 37 => Φ (kcell (c, k)) := by
    unfold cells; rw [bigSep_map, bigSep_univ_prod]; rfl
  have hT : bigSep dutyToks (fun x => (dutyTok ER x.1 x.2.1 x.2.2 : sProp 𝕄)) = bigSep Finset.univ fun c : Dev nD => toks c := by
    unfold dutyToks toks; rw [bigSep_map, bigSep_univ_prod, bigSep_univ_prod]; rfl
  iintro HX
  imod (Rounds.fund ER (sched m) cells dutyToks) $$ HX with ⟨Hst, Hr, Hat, Htok⟩
  imodintro
  ihave Hst' := (Entails.of_eq (hX fun g => roundState ER (sched m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat']; · iexact Hat'
    iexact Hr'
  iexact Htok'

/-! ## Opening the cells -/

/-- On one device: each cell's invariant from its counter at zero; the copies' counters stay. -/
theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (sched m) κ (kcell (c, k))))
          ∗ (bigSep Finset.univ fun k => iprop(atPos ER (kcell (c, k)) 0 ∅ 0 ∗ reached ER (kcell (c, k)) 0)) ∗ toks c
          ∗ bigSep Finset.univ fun s : Fin 4 => semVal (copyCell c s) 0) := by
  have hv : (bigSep Finset.univ fun k : Fin 37 => semVal (kcell (c, k)) 0 : sProp 𝕄)
      = iprop((bigSep Finset.univ fun i : Fin 18 => semVal (sendCell c i) 0) ∗ (bigSep Finset.univ fun i : Fin 18 => semVal (recvCell c i) 0) ∗ semVal (barCell c) 0) := by
    rw [over_cells]; simp only [kcell, csem_send, csem_recv, csem_bar]
  unfold G
  rw [ownSems0_eq, unscopedSems0_eq]
  iintro ⟨⟨HS, HV, HC⟩, HB, Hst, Hat, Htok⟩
  ihave Hv := (Entails.of_eq hv.symm) $$ [HS HV HB]
  · isplitl [HS]; · iexact HS
    isplitl [HV]; · iexact HV
    iexact HB
  imod (show iprop((bigSep Finset.univ fun k : Fin 37 => semVal (kcell (c, k)) 0) ∗ bigSep Finset.univ fun k : Fin 37 => roundState ER (sched m) (kcell (c, k)) 0)
      ⊢ (|={Set.univ}=> bigSep Finset.univ fun k => iprop(∃ κ : ℕ, cellInv ER (sched m) κ (kcell (c, k))) : sProp 𝕄) from by
        rw [← bigSep_sep']
        exact (bigSep_mono fun k _ => (Rounds.body_intro ER (sched m) (kcell (c, k))).trans inv_alloc).trans (bigSep_fupd _ _)) $$ [Hv Hst] with Hinv
  · isplitl [Hv]; · iexact Hv
    iexact Hst
  imodintro
  isplitl [Hinv]; · iexact Hinv
  isplitl [Hat]; · iexact Hat
  isplitl [Htok]; · iexact Htok
  iexact HC

/-! ## The rights dealt to the devices that use them -/

/-- The rights that `c` uses: its neighbours' barriers, its own sends, its peers' receives. -/
def payToks (c : Dev nD) : sProp 𝕄 :=
  iprop((bigSep Finset.univ fun l : Fin 3 => dutyTok ER (barCell (hop (tag l) c)) 0 l)
    ∗ (bigSep Finset.univ fun i : Fin 18 => dutyTok ER (sendCell c i) 0 0)
    ∗ bigSep Finset.univ fun i : Fin 18 => dutyTok ER (recvCell (peer i c) i) 0 0)

/-- A device's rights, sorted by cell. -/
theorem toks_sort (c : Dev nD) : (toks c : sProp 𝕄) ⊢ iprop((bigSep Finset.univ fun l : Fin 3 => dutyTok ER (barCell c) 0 l)
    ∗ (bigSep Finset.univ fun i : Fin 18 => dutyTok ER (sendCell c i) 0 0)
    ∗ bigSep Finset.univ fun i : Fin 18 => dutyTok ER (recvCell c i) 0 0) := by
  unfold toks
  rw [over_cells]
  simp only [kcell, csem_send, csem_recv, csem_bar]
  have h1 : ∀ i : Fin 18, (bigSep Finset.univ fun d : Fin 3 => dutyTok ER (sendCell c i) 0 d : sProp 𝕄) ⊢ dutyTok ER (sendCell c i) 0 0 :=
    fun i => BI.bigSep_elim (Φ := fun d : Fin 3 => (dutyTok ER (sendCell c i) 0 d : sProp 𝕄)) (Finset.mem_univ 0)
  have h2 : ∀ i : Fin 18, (bigSep Finset.univ fun d : Fin 3 => dutyTok ER (recvCell c i) 0 d : sProp 𝕄) ⊢ dutyTok ER (recvCell c i) 0 0 :=
    fun i => BI.bigSep_elim (Φ := fun d : Fin 3 => (dutyTok ER (recvCell c i) 0 d : sProp 𝕄)) (Finset.mem_univ 0)
  iintro ⟨HS, HV, HB⟩
  isplitl [HB]; · iexact HB
  isplitl [HS]
  · iapply (show (bigSep Finset.univ fun i : Fin 18 => (bigSep Finset.univ fun d : Fin 3 => dutyTok ER (sendCell c i) 0 d : sProp 𝕄)) ⊢ _ from bigSep_mono fun i _ => h1 i)
    iexact HS
  · iapply (show (bigSep Finset.univ fun i : Fin 18 => (bigSep Finset.univ fun d : Fin 3 => dutyTok ER (recvCell c i) 0 d : sProp 𝕄)) ⊢ _ from bigSep_mono fun i _ => h2 i)
    iexact HV

/-- A family over devices may be dealt along the links. -/
theorem deal {I : Type} [Fintype I] (e : I → Fin 8) (Φ : Dev nD → I → sProp 𝕄) :
    (bigSep Finset.univ fun c : Dev nD => bigSep Finset.univ fun i : I => Φ c i)
      = bigSep Finset.univ fun c : Dev nD => bigSep Finset.univ fun i : I => Φ (hop (e i) c) i := by
  rw [bigSep_univ_comm, bigSep_univ_comm (fun (c : Dev nD) (i : I) => Φ (hop (e i) c) i)]
  exact bigSep_congr fun i _ => bigSep_univ_equiv (hopEquiv (e i)) fun c => Φ c i

/-- Handed around, each device holds the rights to raise what it will raise. -/
theorem toks_around : (bigSep Finset.univ fun c : Dev nD => (toks c : sProp 𝕄)) ⊢ bigSep Finset.univ fun c : Dev nD => payToks c := by
  have h : (bigSep Finset.univ fun c : Dev nD => iprop((bigSep Finset.univ fun l : Fin 3 => dutyTok ER (barCell c) 0 l)
      ∗ (bigSep Finset.univ fun i : Fin 18 => dutyTok ER (sendCell c i) 0 0)
      ∗ bigSep Finset.univ fun i : Fin 18 => dutyTok ER (recvCell c i) 0 0) : sProp 𝕄) = bigSep Finset.univ fun c : Dev nD => payToks c := by
    unfold payToks
    rw [bigSep_sep', bigSep_sep', bigSep_sep', bigSep_sep', deal tag (fun (c : Dev nD) (l : Fin 3) => (dutyTok ER (barCell c) 0 l : sProp 𝕄)),
      deal (fun i => tag (lnk i)) (fun (c : Dev nD) (i : Fin 18) => (dutyTok ER (recvCell c i) 0 0 : sProp 𝕄))]
    rfl
  iintro H
  iapply (Entails.of_eq h)
  iapply (show (bigSep Finset.univ fun c : Dev nD => (toks c : sProp 𝕄)) ⊢ _ from bigSep_mono fun c _ => toks_sort c)
  iexact H

/-- What stays with device `c` of the protocol's state. -/
def linear (c : Dev nD) : sProp 𝕄 :=
  iprop((bigSep Finset.univ fun k : Fin 37 => atPos ER (kcell (c, k)) 0 ∅ 0) ∗ payToks c
    ∗ bigSep Finset.univ fun s : Fin 4 => semVal (copyCell c s) 0)

/-- The cells' invariants and that their round 0 is reached. -/
def known (K : Dev nD × Fin 37 → ℕ) : sProp 𝕄 :=
  bigSep Finset.univ (fun ck : Dev nD × Fin 37 => iprop(cellInv ER (sched m) (K ck) (kcell ck) ∗ reached ER (kcell ck) 0))
/-- What is known of the cells can be used many times. -/
instance known_persistent (K : Dev nD × Fin 37 → ℕ) : BI.Persistent (known (F := F) m K) := by unfold known; infer_instance

/-- What device `c` holds once every cell is open. -/
def G' (c : Dev nD) : sProp 𝕄 := iprop(∃ K, known m K ∗ linear c)

/-- Facts that can be used many times go to every member of a family. -/
theorem with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- The launch's pieces, regrouped by device. -/
theorem regroup :
    (bigSep Finset.univ fun c : Dev nD => iprop((bigSep Finset.univ fun k => iprop(∃ κ : ℕ, cellInv ER (sched m) κ (kcell (c, k))))
          ∗ (bigSep Finset.univ fun k => iprop(atPos ER (kcell (c, k)) 0 ∅ 0 ∗ reached ER (kcell (c, k)) 0)) ∗ toks c
          ∗ bigSep Finset.univ fun s : Fin 4 => semVal (copyCell c s) 0) : sProp 𝕄)
      ⊢ bigSep Finset.univ (G' m) := by
  rw [bigSep_sep', bigSep_sep', bigSep_sep', ← bigSep_univ_prod (fun ck : Dev nD × Fin 37 => iprop(∃ κ : ℕ, cellInv ER (sched m) κ (kcell ck))),
    bigSep_congr (s := Finset.univ) (fun (c : Dev nD) _ => bigSep_sep' Finset.univ (fun k : Fin 37 => (atPos ER (kcell (c, k)) 0 ∅ 0 : sProp 𝕄)) (fun k => reached ER (kcell (c, k)) 0)),
    bigSep_sep', ← bigSep_univ_prod (fun ck : Dev nD × Fin 37 => (reached ER (kcell ck) 0 : sProp 𝕄))]
  iintro ⟨HI, ⟨Hat, HR⟩, Htok, HC⟩
  ihave HK := (BI.bigSep_exists_pi Finset.univ (fun (ck : Dev nD × Fin 37) (κ : ℕ) => (cellInv ER (sched m) κ (kcell ck) : sProp 𝕄))) $$ HI
  icases HK with ⟨%K, HI⟩
  ihave Htk := (toks_around (F := F)) $$ Htok
  iapply (with_persistent (R := known m K) (Φ := linear) fun c _ => show iprop(known m K ∗ linear c) ⊢ G' m c from by
    unfold G'; iintro ⟨H1, H2⟩; iexists K; isplitl [H1]; · iexact H1
    iexact H2)
  isplitl [HI HR]
  · unfold known
    iapply (Entails.of_eq (bigSep_sep' Finset.univ (fun ck : Dev nD × Fin 37 => (cellInv ER (sched m) (K ck) (kcell ck) : sProp 𝕄)) (fun ck => reached ER (kcell ck) 0)).symm)
    isplitl [HI]; · iexact HI
    iexact HR
  · have hl : (bigSep Finset.univ (linear (F := F)) : sProp 𝕄) = iprop((bigSep Finset.univ fun c : Dev nD => bigSep Finset.univ fun k : Fin 37 => atPos ER (kcell (c, k)) 0 ∅ 0)
        ∗ (bigSep Finset.univ fun c : Dev nD => payToks c) ∗ bigSep Finset.univ fun c : Dev nD => bigSep Finset.univ fun s : Fin 4 => semVal (copyCell c s) 0) := by
      rw [← bigSep_sep', ← bigSep_sep']; rfl
    iapply (Entails.of_eq hl.symm)
    isplitl [Hat]; · iexact Hat
    isplitl [Htk]; · iexact Htk
    iexact HC

/-- The step that all devices take together at launch. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

end Cert.Gather

end
-- ==== Proof.Start.lean ====
/-
What a device starts its body from and ends it with: the credits of the launch, and the protocol's
state and the buffers sorted into the pieces that the body takes.
-/
module

public import proofs.«01_k».proof.Proof.Ghost

@[expose] public section

noncomputable section

namespace Cert.Gather

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The launch's credits -/

/-- The transfers that are made, and the numbers that stand for none. -/
def usedSet : Finset (Fin 18) := Finset.univ.filter fun i => used i = true
/-- The transfers that the kernel doesn't make. -/
def restSet : Finset (Fin 18) := Finset.univ.filter fun i => ¬ used i = true

/-- A family over the transfers made, written out. -/
theorem over_used (Φ : Fin 18 → sProp 𝕄) : bigSep usedSet Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 14 ∗ Φ 16) :=
  bigSep_eq_bigSepL_of_eq [0, 1, 2, 3, 4, 5, 6, 7, 8, 9, 10, 11, 12, 14, 16] (by decide) (by decide) Φ
/-- A family over all transfers is one over those made and one over the rest. -/
theorem over_all (Φ : Fin 18 → sProp 𝕄) : bigSep Finset.univ Φ = iprop(bigSep usedSet Φ ∗ bigSep restSet Φ) :=
  BI.bigSep_filter_split Finset.univ fun i : Fin 18 => used i = true

/-- Barrier cells are equal when their devices are. -/
theorem bar_eq_iff {a b : Dev nD} : Iff (barCell a = barCell b) (a = b) :=
  ⟨fun h => congrArg (fun g : GSem nD τ sig => g.1.1) h, fun h => h ▸ rfl⟩
/-- Receive cells are equal when their devices and transfers are. -/
theorem recv_eq_iff {a b : Dev nD} {i j : Fin 18} : Iff (recvCell a i = recvCell b j) (a = b ∧ i = j) := by
  constructor
  · intro h
    have h2 : krecv i = krecv j := csem_injective (by
      rw [csem_recv, csem_recv]; exact congrArg (fun g : GSem nD τ sig => g.2) h)
    have h3 : 18 + i.val = 18 + j.val := congrArg Fin.val h2
    exact ⟨congrArg (fun g : GSem nD τ sig => g.1.1) h, Fin.ext (by omega)⟩
  · rintro ⟨rfl, rfl⟩; rfl
/-- A barrier cell is no receive cell. -/
theorem bar_ne_recv {a b : Dev nD} {i : Fin 18} : barCell a ≠ recvCell b i := fun h => by
  have h1 := congrArg (fun g : GSem nD τ sig => role g.2) h
  change role (.reg barS) = role (.dma (recvS i)) at h1
  rw [role_bar, role_recv] at h1
  cases h1
/-- Flipping bits can be moved to the other side. -/
theorem hop_eq_iff (t : Fin 8) {a b : Dev nD} : Iff (a = hop t b) (b = hop t a) :=
  ⟨fun h => by rw [h, hop_hop], fun h => by rw [h, hop_hop]⟩

/-- What `d` owes the barrier of `c`: a unit over each link between them. -/
theorem owed_bar (d c : Dev nD) (bs is) :
    debt d bs is (barCell c) () = (bs.map fun l => if d = hop (tag l) c then 1 else 0).sum := by
  induction bs with
  | cons l bs ih =>
    rw [debt_bar, Pi.add_apply, Finsupp.add_apply, tallyAt_apply, ih, List.map_cons, List.sum_cons, Nat.add_comm]
    congr 1
    refine if_congr ?_ rfl rfl
    rw [bar_eq_iff, and_iff_left rfl, hop_eq_iff]
  | nil =>
    induction is with
    | cons i is ih => rw [debt_recv, Pi.add_apply, Finsupp.add_apply, tallyAt_ne_cell bar_ne_recv, ih]; rfl
    | nil => rw [debt_nil]; rfl

/-- What `d` owes for the arrival of transfer `i` on `c`. -/
theorem owed_recv (d c : Dev nD) (i : Fin 18) (bs) (is : List (Fin 18)) (hn : is.Nodup) :
    debt d bs is (recvCell c i) () = if i ∈ is ∧ d = peer i c then amt i else 0 := by
  induction bs with
  | cons l bs ih => rw [debt_bar, Pi.add_apply, Finsupp.add_apply, tallyAt_ne_cell (Ne.symm bar_ne_recv), ih]; rfl
  | nil =>
    induction is with
    | cons j is ih =>
      have hj := List.nodup_cons.mp hn
      rw [debt_recv, Pi.add_apply, Finsupp.add_apply, tallyAt_apply, ih hj.2]
      by_cases h : i = j
      · subst h
        rw [if_neg fun h => hj.1 h.1, Nat.zero_add]
        refine if_congr ?_ rfl rfl
        rw [recv_eq_iff, and_iff_left rfl, and_iff_left rfl, and_iff_right List.mem_cons_self]
        exact hop_eq_iff (tag (lnk i))
      · rw [if_neg (c := recvCell c i = recvCell (peer j d) j ∧ () = ()) fun h' => h (recv_eq_iff.mp h'.1).2, Nat.add_zero]
        refine if_congr ?_ rfl rfl
        rw [List.mem_cons, or_iff_right h]
    | nil => rw [debt_nil, if_neg fun h => absurd h.1 List.not_mem_nil]; rfl

/-- At launch each barrier is owed three. -/
theorem launch_bar (c : Dev nD) :
    tallyOn (barCell c) (launchCredit (Pipeline.owing O₀) 0 (barCell c)) = (tallyAt (barCell c) () 3 : CellTallies nD τ sig Unit) := by
  unfold tallyAt; refine congrArg _ (Finsupp.ext fun u => ?_); cases u
  rw [Pipeline.launchCredit_owing, Finsupp.single_eq_same, Finset.sum_congr rfl fun d _ => show O₀ d (barCell c) () = _ from owed_bar d c [0, 1, 2] sends]
  simp only [List.map_cons, List.map_nil, List.sum_cons, List.sum_nil, Finset.sum_add_distrib, Finset.sum_ite_eq', Finset.sum_ite_eq,
    Finset.mem_univ, if_true, Finset.sum_const_zero]
  rfl

/-- No transfer is started twice. -/
theorem sends_nodup : sends.Nodup := by decide
/-- Every used transfer is started. -/
theorem mem_sends : ∀ i, used i = true → i ∈ sends := by decide

/-- At launch each used receive cell is owed its transfer's credit. -/
theorem launch_recv (c : Dev nD) (i : Fin 18) (h : used i = true) :
    tallyOn (recvCell c i) (launchCredit (Pipeline.owing O₀) 0 (recvCell c i)) = (tallyAt (recvCell c i) () (amt i) : CellTallies nD τ sig Unit) := by
  unfold tallyAt; refine congrArg _ (Finsupp.ext fun u => ?_); cases u
  rw [Pipeline.launchCredit_owing, Finsupp.single_eq_same, Finset.sum_congr rfl fun d _ => show O₀ d (recvCell c i) () = _ from owed_recv d c i [0, 1, 2] sends sends_nodup]
  simp only [mem_sends i h, true_and, Finset.sum_ite_eq', Finset.mem_univ, if_true]

/-- The receive semaphores. -/
def recvLoc : Fin 18 ↪ SemLoc sig := ⟨fun i => .dma (recvS i), by decide⟩

/-- The credits that `c` waits with. -/
def credits (c : Dev nD) : sProp 𝕄 :=
  iprop(cred (tallyAt (barCell c) () 3) ∗ bigSep usedSet fun i => cred (tallyAt (recvCell c i) () (amt i)))

/-- The launch's credits give each device those that its waits take. -/
theorem creds (c : Dev nD) : (Pipeline.launchCred O₀ c : sProp 𝕄) ⊢ credits c := by
  unfold Pipeline.launchCred credits
  rw [bigSep_univ_at _ (SemLoc.reg barS), launch_bar]
  refine sep_mono_right ?_
  have hs : usedSet.map recvLoc ⊆ Finset.univ.erase (SemLoc.reg barS) := fun x hx => by
    obtain ⟨i, _, rfl⟩ := Finset.mem_map.mp hx
    refine Finset.mem_erase.mpr ⟨fun h => ?_, Finset.mem_univ _⟩
    have h' : (SemLoc.dma (recvS i) : SemLoc sig) = .reg barS := h
    cases h'
  have he : (bigSep (usedSet.map recvLoc) fun sm => cred (tallyOn ((c : Thread nD τ), sm) (launchCredit (Pipeline.owing O₀) 0 ((c : Thread nD τ), sm))) : sProp 𝕄)
      = bigSep usedSet fun i => cred (tallyAt (recvCell c i) () (amt i)) := by
    rw [bigSep_map]
    refine bigSep_congr fun i hi => ?_
    exact congrArg cred (launch_recv c i (Finset.mem_filter.mp hi).2)
  rw [← he]
  exact BI.bigSep_subset hs

/-! ## The kits -/

/-- The protocol's state, sorted by transfer. -/
theorem kits (c : Dev nD) :
    iprop(linear c ∗ credits c) ⊢ (iprop((bigSep usedSet (sendKit c) ∗ bigSep usedSet (recvKit c))
      ∗ (bigSep restSet fun i => iprop(atPos ER (sendCell c i) 0 ∅ 0 ∗ atPos ER (recvCell c i) 0 ∅ 0))
      ∗ (cred (tallyAt (barCell c) () 3) ∗ atPos ER (barCell c) 0 ∅ 0)
      ∗ (dutyTok ER (barCell (hop (tag 0) c)) 0 0 ∗ dutyTok ER (barCell (hop (tag 1) c)) 0 1 ∗ dutyTok ER (barCell (hop (tag 2) c)) 0 2)
      ∗ (semVal (copyCell c 0) 0 ∗ semVal (copyCell c 1) 0 ∗ semVal (copyCell c 2) 0 ∗ semVal (copyCell c 3) 0)) : sProp 𝕄) := by
  have hs : (bigSep usedSet (sendKit (F := F) c) : sProp 𝕄) = iprop((bigSep usedSet fun i => dutyTok ER (sendCell c i) 0 0)
      ∗ (bigSep usedSet fun i => dutyTok ER (recvCell (peer i c) i) 0 0) ∗ bigSep usedSet fun i => atPos ER (sendCell c i) 0 ∅ 0) := by
    rw [← bigSep_sep', ← bigSep_sep']; rfl
  have hr : (bigSep usedSet (recvKit (F := F) c) : sProp 𝕄) = iprop((bigSep usedSet fun i => cred (tallyAt (recvCell c i) () (amt i)))
      ∗ bigSep usedSet fun i => atPos ER (recvCell c i) 0 ∅ 0) := by
    rw [← bigSep_sep']; rfl
  have hb : (bigSep Finset.univ fun l : Fin 3 => dutyTok ER (barCell (hop (tag l) c)) 0 l : sProp 𝕄)
      = iprop(dutyTok ER (barCell (hop (tag 0) c)) 0 0 ∗ dutyTok ER (barCell (hop (tag 1) c)) 0 1 ∗ dutyTok ER (barCell (hop (tag 2) c)) 0 2) :=
    bigSep_univ_eq_bigSepL [0, 1, 2] (by decide) (by decide) _
  have hc : (bigSep Finset.univ fun s : Fin 4 => semVal (copyCell c s) 0 : sProp 𝕄)
      = iprop(semVal (copyCell c 0) 0 ∗ semVal (copyCell c 1) 0 ∗ semVal (copyCell c 2) 0 ∗ semVal (copyCell c 3) 0) :=
    bigSep_univ_eq_bigSepL [0, 1, 2, 3] (by decide) (by decide) _
  have ha : (bigSep Finset.univ fun k : Fin 37 => atPos ER (kcell (c, k)) 0 ∅ 0 : sProp 𝕄)
      = iprop((bigSep Finset.univ fun i : Fin 18 => atPos ER (sendCell c i) 0 ∅ 0) ∗ (bigSep Finset.univ fun i : Fin 18 => atPos ER (recvCell c i) 0 ∅ 0)
        ∗ atPos ER (barCell c) 0 ∅ 0) := by
    rw [over_cells]; simp only [kcell, csem_send, csem_recv, csem_bar]
  unfold linear payToks credits
  rw [hs, hr, hb, hc, ha, bigSep_sep', over_all (fun i => atPos ER (sendCell c i) 0 ∅ 0), over_all (fun i => atPos ER (recvCell c i) 0 ∅ 0),
    over_all (fun i => dutyTok ER (sendCell c i) 0 0), over_all (fun i => dutyTok ER (recvCell (peer i c) i) 0 0)]
  iintro ⟨⟨⟨⟨AS, AS'⟩, ⟨AV, AV'⟩, AB⟩, ⟨TB, ⟨TS, -⟩, ⟨TV, -⟩⟩, C⟩, CB, CV⟩
  isplitl [AS AV TS TV CV]
  · isplitl [AS TS TV]
    · isplitl [TS]; · iexact TS
      isplitl [TV]; · iexact TV
      iexact AS
    · isplitl [CV]; · iexact CV
      iexact AV
  isplitl [AS' AV']
  · isplitl [AS']; · iexact AS'
    iexact AV'
  isplitl [CB AB]
  · isplitl [CB]; · iexact CB
    iexact AB
  isplitl [TB]; · iexact TB
  iexact C

/-- The semaphores of no transfer are at zero. -/
theorem close_rest (K : Dev nD × Fin 37 → ℕ) (c : Dev nD) :
    iprop(recs m K ∗ bigSep restSet fun i => iprop(atPos ER (sendCell c i) 0 ∅ 0 ∗ atPos ER (recvCell c i) 0 ∅ 0))
      ⊢ (|={Set.univ}=> iprop((bigSep restSet fun i => semVal (sendCell c i) 0) ∗ bigSep restSet fun i => semVal (recvCell c i) 0) : sProp 𝕄) := by
  have h1 : ∀ i ∈ restSet, iprop(recs m K ∗ iprop(atPos ER (sendCell c i) 0 ∅ 0 ∗ atPos ER (recvCell c i) 0 ∅ 0))
      ⊢ (|={Set.univ}=> iprop(semVal (sendCell c i) 0 ∗ semVal (recvCell c i) 0) : sProp 𝕄) := fun i hi => by
    have hu : used i = false := Bool.eq_false_iff.mpr (Finset.mem_filter.mp hi).2
    iintro ⟨#HR, HS, HV⟩
    ihave #HI := (recs_send m K c i) $$ HR
    icases HI with ⟨#HI, -⟩
    ihave #HJ := (recs_recv m K c i) $$ HR
    icases HJ with ⟨#HJ, -⟩
    imod (Rounds.cell_close ER (sched m) (Set.mem_univ (K (c, ksend i))) (fun h => h) (R := 0) (duties_send_unused m c i hu)) $$ [HS] with HS
    · isplitr; · iexact HI
      iexact HS
    imod (Rounds.cell_close ER (sched m) (Set.mem_univ (K (c, krecv i))) (fun h => h) (R := 0) (duties_recv_unused m c i hu)) $$ [HV] with HV
    · isplitr; · iexact HJ
      iexact HV
    imodintro
    isplitl [HS]; · iexact HS
    iexact HV
  rw [← bigSep_sep']
  exact (with_persistent h1).trans (bigSep_fupd _ _)

/-! ## The state before and after the body -/

/-- The protocol's state and the credits, as `c` starts with them. -/
def start (c : Dev nD) : sProp 𝕄 :=
  iprop((∃ K, recs m K ∗ linear c) ∗ credits c ∗ (((c : Thread nD τ).loc main_v1) ↦{fullShare} m ((c : Thread nD τ).loc main_v1)))

/-- What a device holds before its body. -/
def Φ₀ (c : Dev nD) : sProp 𝕄 :=
  iprop(start m c ∗ (∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f))

/-- After the body the result holds the product and every semaphore reads zero. -/
def Φ₁ (c : Dev nD) : sProp 𝕄 :=
  iprop((((c : Thread nD τ).loc main_v1) ↦{fullShare} prod m c)
    ∗ (∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ semVal (barCell c) 0
    ∗ (bigSep Finset.univ fun i : Fin 18 => semVal (sendCell c i) 0) ∗ (bigSep Finset.univ fun i : Fin 18 => semVal (recvCell c i) 0)
    ∗ bigSep Finset.univ fun s : Fin 4 => semVal (copyCell c s) 0)

/-- The state before the body is what the body takes. -/
theorem enter (c : Dev nD) (K : Dev nD × Fin 37 → ℕ) :
    iprop(linear c ∗ credits c ∗ (((c : Thread nD τ).loc main_v1) ↦{fullShare} m ((c : Thread nD τ).loc main_v1))
      ∗ (∃ f : Buf (Elt F) ((c : Thread nD τ).loc cc0_scratch0), ((c : Thread nD τ).loc cc0_scratch0) ↦{fullShare} f)
      ∗ (∃ f : Buf (Elt F) ((c : Thread nD τ).loc cc0_scratch1), ((c : Thread nD τ).loc cc0_scratch1) ↦{fullShare} f)
      ∗ aPts m c ∗ bPts m c ∗ ow c [0, 1, 2] sends)
      ⊢ iprop(bodyIn m c ∗ bigSep restSet fun i => iprop(atPos ER (sendCell c i) 0 ∅ 0 ∗ atPos ER (recvCell c i) 0 ∅ 0)) := by
  iintro ⟨HL, HC, HO, ⟨%f0, HG⟩, ⟨%f1, HS⟩, Ha, Hb, How⟩
  ihave Hk := (kits (F := F) c) $$ [HL HC]
  · isplitl [HL]; · iexact HL
    iexact HC
  icases Hk with ⟨⟨KS, KV⟩, HR, ⟨CB, AB⟩, TB, C0, C1, C2, C3⟩
  ihave HG := (g_split c f0) $$ HG
  icases HG with ⟨G0, B0, B1, B2⟩
  ihave HO := (o_split c _) $$ HO
  ihave HS := (s_split c f1) $$ HS
  icases HS with ⟨S0, S1, S2, S3⟩
  ihave KS := (Entails.of_eq (over_used (sendKit (F := F) c))) $$ KS
  ihave KV := (Entails.of_eq (over_used (recvKit (F := F) c))) $$ KV
  unfold bodyIn free
  isplitr [HR]
  · isplitl [Ha]; · iexact Ha
    isplitl [Hb]; · iexact Hb
    isplitl [G0]; · iexact G0
    isplitl [How]; · iexact How
    isplitl [TB]; · iexact TB
    isplitl [B0 B1 B2]
    · isplitl [B0]; · iexact B0
      isplitl [B1]; · iexact B1
      iexact B2
    isplitl [CB]; · iexact CB
    isplitl [AB]; · iexact AB
    isplitl [S0 S1 S2 S3 C0 C1 C2 C3]
    · isplitl [S0 C0]
      · isplitl [S0]; · iexact S0
        iexact C0
      isplitl [S1 C1]
      · isplitl [S1]; · iexact S1
        iexact C1
      isplitl [S2 C2]
      · isplitl [S2]; · iexact S2
        iexact C2
      isplitl [S3]; · iexact S3
      iexact C3
    isplitl [HO]; · iexact HO
    isplitl [KS]; · iexact KS
    iexact KV
  · iexact HR

/-- What the body ends with is the state after it. -/
theorem leave (c : Dev nD) :
    iprop(bodyOut m c ∗ (bigSep restSet fun i => semVal (sendCell c i) 0) ∗ bigSep restSet fun i => semVal (recvCell c i) 0)
      ⊢ iprop(Φ₁ m c ∗ aPts m c ∗ bPts m c ∗ ow c [] []) := by
  have hg := (g_chunks c (gath m)).symm
  have ho := (o_bands c (prod m c)).symm
  have hS := (over_used (F := F) (fun i => semVal (sendCell c i) 0)).symm
  have hV := (over_used (F := F) (fun i => semVal (recvCell c i) 0)).symm
  have hc : (bigSep Finset.univ fun s : Fin 4 => semVal (copyCell c s) 0 : sProp 𝕄)
      = iprop(semVal (copyCell c 0) 0 ∗ semVal (copyCell c 1) 0 ∗ semVal (copyCell c 2) 0 ∗ semVal (copyCell c 3) 0) :=
    bigSep_univ_eq_bigSepL [0, 1, 2, 3] (by decide) (by decide) _
  unfold bodyOut Φ₁ free
  rw [over_all (fun i => semVal (sendCell c i) 0), over_all (fun i => semVal (recvCell c i) 0), hc]
  iintro ⟨⟨Ha, Hb, HG, How, HB, ⟨⟨S0, C0⟩, ⟨S1, C1⟩, ⟨S2, C2⟩, ⟨S3, C3⟩⟩, HO, KS, KV⟩, RS, RV⟩
  ihave HG := (Entails.of_eq hg) $$ HG
  ihave HO := (Entails.of_eq ho) $$ HO
  ihave KS := (Entails.of_eq hS) $$ KS
  ihave KV := (Entails.of_eq hV) $$ KV
  ihave HS := (s_join (F := F) c) $$ [S0 S1 S2 S3]
  · isplitl [S0]; · iexact S0
    isplitl [S1]; · iexact S1
    isplitl [S2]; · iexact S2
    iexact S3
  isplitr [Ha Hb How]
  · isplitl [HO]; · iexact HO
    isplitl [HG]; · iexists (gath m); iexact HG
    isplitl [HS]; · iexact HS
    isplitl [HB]; · iexact HB
    isplitl [KS RS]
    · isplitl [KS]; · iexact KS
      iexact RS
    isplitl [KV RV]
    · isplitl [KV]; · iexact KV
      iexact RV
    isplitl [C0]; · iexact C0
    isplitl [C1]; · iexact C1
    isplitl [C2]; · iexact C2
    iexact C3
  isplitl [Ha]; · iexact Ha
  isplitl [Hb]; · iexact Hb
  iexact How

end Cert.Gather

end
-- ==== Proof.Launch.lean ====
/-
The kernel runs: every device's result array ends as the product, its arguments as they were, and
every semaphore at zero.
-/
module

public import proofs.«01_k».proof.Proof.Start
public import Idealize.ShloMosaic.Lib.Pipeline.CollectiveSegs

@[expose] public section

noncomputable section

namespace Cert.Gather

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The state that the launch starts from. -/
def s₀ : MemSt nD τ sig (Elt F) := ⟨m, fun _ => 0, ρ⟩

/-! ## The pipeline's data -/

/-- The grid has one point. -/
theorem cfg0_N : cfg0.N = 1 := by decide
/-- The grid's point. -/
def t₀ : Fin cfg0.N := ⟨0, by rw [cfg0_N]; decide⟩
/-- It is the only one. -/
theorem fin_N (t : Fin cfg0.N) : t = t₀ := by
  obtain ⟨t, ht⟩ := t; have := cfg0_N; exact Fin.ext (by simp only [t₀]; omega)

/-- What the pipeline keeps for the launch on device `c`. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => aAt m c
    | ⟨1, _⟩ => bAt m c
  Φ t := match t with
    | ⟨0, _⟩ => Φ₀ m c
    | ⟨_ + 1, _⟩ => Φ₁ m c
  q _ := fullShare
  owed t := match t with
    | ⟨0, _⟩ => O₀ c
    | ⟨_ + 1, _⟩ => 0

/-- A family over the two windows. -/
theorem over_windows (Φ : Fin cfg0.W → sProp 𝕄) : bigSep Finset.univ Φ = iprop(Φ (0 : Fin 2) ∗ Φ (1 : Fin 2)) := bigSep_W0 Φ

/-- The left operand is staged. -/
theorem fetch_0 (t : Fin cfg0.N) : (cfg0.win (0 : Fin 2)).fetch t = true := by rw [fin_N t]; rfl
/-- The right operand is staged. -/
theorem fetch_1 (t : Fin cfg0.N) : (cfg0.win (1 : Fin 2)).fetch t = true := by rw [fin_N t]; rfl

/-- Holding a whole buffer with given contents. -/
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-! ## The body -/

/-- A whole buffer with given contents. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- What the body starts from. -/
def bodyPre (c : Dev nD) : sProp 𝕄 :=
  iprop(Φ₀ m c ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))
/-- What the body ends with. -/
def bodyPost (c : Dev nD) : sProp 𝕄 :=
  iprop(Φ₁ m c ∗ (dats m ρ 0 c).owesAt () t₀.succ ∗ stg c cc0_stg0_0 (aAt m c) ∗ stg c cc0_stg1_0 (bAt m c))

set_option maxRecDepth 4000 in
theorem sound_body (c : Dev nD) :
    bodyPre m ρ c ⊢ wp frame (wpE (defs₀ (F := F)) 𝒱₀ c none) Set.univ
      (cc0_body aM (Memref.isWhole_whole _) bM (Memref.isWhole_whole _) oM (Memref.isWhole_whole _)
          gM (Memref.isWhole_whole _) sM (Memref.isWhole_whole _) cc0_scratch2 cc0_scratch3 cc0_scratch4) (fun _ => bodyPost m ρ c) := by
  unfold bodyPre Φ₀ start
  iintro ⟨⟨⟨⟨%K, #HR, HL⟩, HC, HM⟩, HG, HS⟩, Ho, ⟨%d0, %g0, %hg0, Ha⟩, ⟨%d1, %g1, %hg1, Hb⟩⟩
  have ha : g0 = aAt m c := by rw [hg0]; unfold Dat.before; rw [if_pos (fetch_0 t₀)]; rfl
  subst ha
  have hb : g1 = bAt m c := by rw [hg1]; unfold Dat.before; rw [if_pos (fetch_1 t₀)]; rfl
  subst hb
  unfold Dat.owesAt Pipeline.owesWithin
  icases Ho with ⟨%W, %hW, HO⟩
  rw [show (dats m ρ 0 c).owed t₀.castSucc = O₀ c from rfl]
  ihave HI := (enter m c K) $$ [HL HC HM HG HS Ha Hb HO]
  · isplitl [HL]; · iexact HL
    isplitl [HC]; · iexact HC
    isplitl [HM]; · iexact HM
    isplitl [HG]; · iexact HG
    isplitl [HS]; · iexact HS
    isplitl [Ha]; · unfold aPts; iexact Ha
    isplitl [Hb]; · unfold bPts; iexact Hb
    unfold ow; iexists W; iexact HO
  icases HI with ⟨HI, Hr⟩
  imod (close_rest m K c) $$ [Hr] with ⟨RS, RV⟩
  · isplitr; · iexact HR
    iexact Hr
  iapply (walk m K c (fun _ => bodyPost m ρ c))
  isplitr; · iexact HR
  isplitl [HI]; · iexact HI
  iintro HB
  ihave HE := (leave m c) $$ [HB RS RV]
  · isplitl [HB]; · iexact HB
    isplitl [RS]; · iexact RS
    iexact RV
  icases HE with ⟨HP, Ha, Hb, HO⟩
  unfold bodyPost Dat.owesAt Pipeline.owesWithin
  rw [show (dats m ρ 0 c).owed t₀.succ = 0 from rfl]
  isplitl [HP]; · iexact HP
  isplitl [HO]
  · unfold ow
    rw [debt_nil]
    icases HO with ⟨%W', HO⟩
    iexists W'
    isplitr; · ipureintro; exact fun _ _ => Or.inl trivial
    iexact HO
  isplitl [Ha]
  · iexists _; isplitr; · (ipureintro; rfl)
    unfold aPts; iexact Ha
  iexists _; isplitr; · (ipureintro; rfl)
  unfold bPts; iexact Hb

set_option maxRecDepth 65536 in
theorem body_obligation (c : Dev nD) : BodyObligation (dats (F := F) m ρ 0 c) (defs₀ (F := F)) 𝒱₀ () Set.univ := fun t => by
  rw [fin_N t]
  rw [over_windows, over_windows]
  simp only [owns_whole_eq]
  exact sound_body m ρ c

/-! ## The launch -/

/-- Every window is held in full. -/
theorem share_eq (c : Dev nD) (w : Fin cfg0.W) : (dats m ρ 0 c).share w = fullShare := by unfold Dat.share; split <;> rfl

/-- What the launch hands a device is what it starts from. -/
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  rw [Pipeline.unscopedRestP_none, unscopedRest0_eq]
  iintro ⟨HM, Hlev, Hcr, -, HG⟩
  ihave Hc := (creds (F := F) c) $$ Hcr
  unfold G'
  icases HG with ⟨%K, HK, HL⟩
  imodintro
  unfold start
  isplitl
  · isplitl [Hlev HK HL]
    · iexists K
      isplitl [Hlev HK]
      · unfold recs known
        isplitl [HK]; · iexact HK
        iexact Hlev
      iexact HL
    isplitl [Hc]; · iexact Hc
    iexact HM
  · iempintro

/-- And gives the body's state before the grid's point. -/
theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀
  iintro ⟨Hs, -, Hr⟩
  isplitl [Hs]; · iexact Hs
  iexact Hr

/-- What a device keeps after the kernel: its result and the barrier's counter. -/
def kept (c : Dev nD) : sProp 𝕄 := iprop(unscopedSems0 c ∗ (((c : Thread nD τ).loc main_v1) ↦{fullShare} prod m c))

/-- The state after the point gives what the device ends with. -/
theorem phi1_exit (c : Dev nD) :
    (dats m ρ 0 c).Φ (Fin.last cfg0.N) ⊢ iprop(kept m c ∗ Pipeline.ownSems0 osem c ∗ Pipeline.scopedRest cfg0.spec c) := by
  rw [show (dats m ρ 0 c).Φ (Fin.last cfg0.N) = Φ₁ m c from rfl, scopedRest0_eq, ownSems0_eq]
  unfold kept Φ₁
  rw [unscopedSems0_eq]
  iintro ⟨HM, HG, HS, HB, H1⟩
  isplitl [HB HM]
  · isplitl [HB]; · iexact HB
    iexact HM
  isplitl [H1]; · iexact H1
  isplitl [HG]; · iexact HG
  iexact HS

/-- The pipeline's own waits are ordered below the protocol's. -/
theorem waits (c : Dev nD) : (levAts L lv : sProp 𝕄) ⊢ Pipeline.cellsWaits cfgs (dats m ρ) () 0 c :=
  Pipeline.cellsWaits_intro cfgs (dats m ρ) () 0 c fun w s t => by
    have h : ∀ q : SemLoc sig, lvl q = 0 → ∀ O, O = O₀ c ∨ O = 0 → (levAts L lv : sProp 𝕄) ⊢ MayWait (c : Thread nD τ) q () O := fun q hq O hO => by
      rcases hO with rfl | rfl
      · exact mayWait c q [0, 1, 2] sends (fun _ _ => by omega) (fun _ _ => by omega)
      · rw [MayWait_zero]; iintro -; iempintro
    refine h _ (by fin_cases w <;> fin_cases s <;> decide) _ ?_
    rcases t with ⟨_ | _, ht⟩
    · exact Or.inl rfl
    · exact Or.inr rfl

/-! ## The run -/

/-- What is read off a device's memory at the end. -/
def seen (c : Dev nD) (s : MemSt nD τ sig (Elt F)) : Prop :=
  s.mem ((c : Thread nD τ).loc main_v1) = prod m c ∧ ∀ sm : SemLoc sig, sm.isScoped .tc = false → s.sem ((c.tc : Thread nD τ), sm) = 0

/-- What the final state holds on device `c`. -/
theorem see (c : Dev nD) (s' : Phys nD τ sig (Elt F)) :
    iprop(kept m c ∗ emp ∗ SI s') ⊢ (|={Set.univ}=> iprop(⌜seen m c s'.mem⌝ ∗ SI s') : sProp 𝕄) := by
  have h1 : (bigSep (Finset.univ : Finset (Fin 1)) fun _ => (((c : Thread nD τ).loc main_v1) ↦{fullShare} prod m c : sProp 𝕄))
      = (((c : Thread nD τ).loc main_v1) ↦{fullShare} prod m c) := bigSep_univ_eq_bigSepL [(0 : Fin 1)] (by decide) (by decide) _
  unfold kept
  iintro ⟨⟨Hu, HM⟩, -, HSI⟩
  imod (Pipeline.unscopedSems0_read (X := unscopedSems0 c) (c := c) fupd_intro s') $$ [Hu HSI] with ⟨%hu, HSI⟩
  · isplitl [Hu]; · iexact Hu
    iexact HSI
  ihave H := (pointsTo_read_all (Finset.univ : Finset (Fin 1)) (fun _ => (c : Thread nD τ).loc main_v1) (fun _ => prod m c) s') $$ [HM HSI]
  · isplitl [HM]
    · iapply (Entails.of_eq h1.symm)
      iexact HM
    iexact HSI
  icases H with ⟨%hm, HSI⟩
  imodintro
  isplitr
  · ipureintro; exact ⟨hm 0 (Finset.mem_univ _), hu⟩
  iexact HSI

/-- The arguments' arrays hold what they held. -/
def after (c : Dev nD) (s : MemSt nD τ sig (Elt F)) : Prop :=
  s.mem ((c : Thread nD τ).loc main_v1) = prod m c
    ∧ s.mem ((c : Thread nD τ).loc main_arg0) = m ((c : Thread nD τ).loc main_arg0)
    ∧ s.mem ((c : Thread nD τ).loc main_arg1) = m ((c : Thread nD τ).loc main_arg1)

set_option maxRecDepth 8000 in
/-- From any memory with the counters at zero, every weakly fair execution of the kernel on the mesh
    ends, with each device's result array at the product, its arguments as they were, and every counter at zero. -/
theorem run_main : θ_run defs (onTc (τ := τ) (main (F := F))) (s₀ m ρ) (fun r => (∀ c, after m c r.2) ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      ihave H2 := (own_pair_emb embR _ _) $$ HX
      icases H2 with ⟨HX, -⟩
      imod (fund_cells m) $$ HX with HG
      imodintro
      isplitl [HP]; · iexact HP
      iexact HG)
    (hglob := glob m)
    (hA := fun _ _ => rfl) (hpf := fun _ k => k.elim0)
    (X := start m) (Y := kept m) (Z := fun _ => iprop(emp))
    (hX := start_intro m ρ) (hin := phi0_intro m ρ) (hout := phi1_exit m ρ)
    (QY := seen m) (hY := see m)
    (hQ := fun _ h hs => ⟨fun c => ⟨(h c).2.2.1, ((h c).1 (0 : Fin 2)).trans ((dats m ρ 0 c).arrAt_in (0 : Fin 2) rfl _),
      ((h c).1 (1 : Fin 2)).trans ((dats m ρ 0 c).arrAt_in (1 : Fin 2) rfl _)⟩, sem_eq_zero hs fun c => (h c).2.2.2⟩)

end Cert.Gather

end
-- ==== Proof.Value.lean ====
/-
What the result is: at exact arithmetic its entry at row `r` and column `k` is the sum of the products
of row `r` of the whole left operand and column `k` of the right, which is also what the reference computes.
-/
module

public import proofs.«01_k».proof.Proof.Launch
public import proofs.«01_k».proof.Proof.Gen.ReferenceIdeal.Run
public import Idealize.ShloMosaic.PureOps.Ideal.Laws
public import Idealize.ShloMosaic.Lib.MatmulPlain
public import Idealize.ShloMosaic.Lib.StackMember
public import Idealize.ShloMosaic.Lib.Layout

@[expose] public section

noncomputable section

namespace Cert.Gather

open Cert.KernelIdeal Cert.KernelIdeal.Gen
open Idealize.ShloMosaic Idealize.ShloMosaic.ValueIdx
open Idealize.ShloMosaic.TcCoe

/-- Staging the left operand copies it. -/
theorem aAt_eq {F : FTy → Type} (m : (ℓ : Loc nD τ sig) → Buf (Elt F) ℓ) (c : Dev nD) (x : S1536x768.Idx) :
    (aAt m c : S1536x768.Idx → Elt F .bf16) x = (m ((c : Thread nD τ).loc main_arg0) : S1536x768.Idx → Elt F .bf16) x := by
  refine congrArg (m ((c : Thread nD τ).loc main_arg0) : S1536x768.Idx → Elt F .bf16) (funext fun a => Fin.ext ?_)
  refine (Pipeline.Window.rect_emb_val_off win0_0 (0 : Fin 1) x a).trans ?_
  fin_cases a <;> exact Nat.zero_add _
/-- Staging the right operand copies it. -/
theorem bAt_eq {F : FTy → Type} (m : (ℓ : Loc nD τ sig) → Buf (Elt F) ℓ) (c : Dev nD) (x : S768x1536.Idx) :
    (bAt m c : S768x1536.Idx → Elt F .bf16) x = (m ((c : Thread nD τ).loc main_arg1) : S768x1536.Idx → Elt F .bf16) x := by
  refine congrArg (m ((c : Thread nD τ).loc main_arg1) : S768x1536.Idx → Elt F .bf16) (funext fun a => Fin.ext ?_)
  refine (Pipeline.Window.rect_emb_val_off win0_1 (0 : Fin 1) x a).trans ?_
  fin_cases a <;> exact Nat.zero_add _

/-- One product of the kernel, at an entry. -/
theorem pay_apply (v : Vec Ideal S1x768x768 .bf16) (w : Vec Ideal S768x1536 .bf16) (r : Fin 768) (k : Fin 1536) :
    k0_pay2 v w (ix3 (0 : Fin 1) r k) = ∑ q : Fin 768, (v (ix3 (0 : Fin 1) r q) : EReal) * (w (ix2 q k) : EReal) := by
  unfold k0_pay2
  refine (shapeCast_ab_1ab_apply (a := 768) (b := 1536) _ _ _ _ _).trans ?_
  refine (Ideal.matmul_plain_apply (M := 768) (K := 768) (N := 1536) none _ _ _ r k).trans ?_
  rw [show (constant S768x1536 .f32 0x00000000#32 : FVec Ideal S768x1536 .f32) (ix2 r k) = (0 : EReal) from Ideal.ofBits_zero_f32, zero_add]
  refine Finset.sum_congr rfl fun q _ => ?_
  congr 1
  · exact shapeCast_1ab_ab_apply (a := 768) (b := 768) v _ r q
  · exact congrFun (shapeCast_self (s := S768x1536) w _) (ix2 q k)

section
variable (m : (ℓ : Loc nD τ sig) → Buf (Elt Ideal) ℓ)
variable (A : (⟨2, ![12288, 768]⟩ : Shape).Idx → Elt Ideal .bf16) (B : (⟨2, ![768, 1536]⟩ : Shape).Idx → Elt Ideal .bf16)

/-- The kernel's result, at an entry. -/
theorem prod_apply (hA : ∀ c : Dev nD, m ((c : Thread nD τ).loc main_arg0) = Layout.block ⟨2, ![1536, 768]⟩ ⟨2, ![12288, 768]⟩ 0 8 c A)
    (hB : ∀ c : Dev nD, m ((c : Thread nD τ).loc main_arg1) = B) (c : Dev nD) (r : Fin 12288) (k : Fin 1536) :
    (prod m c : (⟨2, ![12288, 1536]⟩ : Shape).Idx → Elt Ideal .bf16) (ix2 r k) = ∑ q : Fin 768, (A (ix2 r q) : EReal) * (B (ix2 q k) : EReal) := by
  have hr := r.isLt
  refine (pay_apply _ _ ⟨r.val % 768, Nat.mod_lt _ (by decide)⟩ k).trans (Finset.sum_congr rfl fun q _ => ?_)
  congr 1
  · refine (aAt_eq m _ _).trans ?_
    rw [hA]
    refine congrArg A (funext fun a => Fin.ext ?_)
    fin_cases a
    · show r.val / 1536 * 1536 + (768 * (r.val / 768 % 2) + r.val % 768) = r.val
      omega
    · rfl
  · refine (bAt_eq m c _).trans ?_
    rw [hB]

/-- The reference's result, at an entry. -/
theorem ref_apply (h : FTy.bits .bf16 < FTy.bits .f32) (r : Fin 12288) (k : Fin 1536) :
    (truncf .bf16 (Host.dotGeneral Cert.ReferenceIdeal.dot_S12288x768_S768x1536_S12288x1536_1_0_0_1_n_n none
        (extf .f32 (A : FVec Ideal _ .bf16) h) (extf .f32 (B : FVec Ideal _ .bf16) h)) h : FVec Ideal ⟨2, ![12288, 1536]⟩ .bf16) (ix2 r k)
      = ∑ q : Fin 768, (A (ix2 r q) : EReal) * (B (ix2 q k) : EReal) :=
  StackMember.dotGeneral_plain_apply (m := 12288) (k := 768) (n := 1536) (φ₁ := .f32) (φ₂ := .f32) none A B r k

/-- The two results are equal. -/
theorem prod_eq (hA : ∀ c : Dev nD, m ((c : Thread nD τ).loc main_arg0) = Layout.block ⟨2, ![1536, 768]⟩ ⟨2, ![12288, 768]⟩ 0 8 c A)
    (hB : ∀ c : Dev nD, m ((c : Thread nD τ).loc main_arg1) = B) (h : FTy.bits .bf16 < FTy.bits .f32) (c : Dev nD) :
    prod m c
      = (truncf .bf16 (Host.dotGeneral Cert.ReferenceIdeal.dot_S12288x768_S768x1536_S12288x1536_1_0_0_1_n_n none
        (extf .f32 (A : FVec Ideal _ .bf16) h) (extf .f32 (B : FVec Ideal _ .bf16) h)) h : FVec Ideal ⟨2, ![12288, 1536]⟩ .bf16) := by
  funext j
  obtain ⟨r, k, rfl⟩ : ∃ (r : Fin 12288) (k : Fin 1536), j = ix2 r k := ⟨j 0, j 1, eq_ix2 j⟩
  exact (prod_apply m A B hA hB c r k).trans (ref_apply A B h r k).symm

end

end Cert.Gather

end
-- ==== Proof.lean ====
/-
The proof of `Cert.Claim`. The kernel's run is proved once, at any float instance (`Proof/Launch.lean`); the
frames of both instances and the value claim come from it, the latter with `Proof/Value.lean`.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Value
public import Idealize.ShloMosaic.Adequacy
public import Idealize.ShloMosaic.Init

@[expose] public section

noncomputable section

namespace Cert.Proof

open Idealize.ShloMosaic Idealize.SL.Sem

/-- The two printed texts of the kernel have the same body table but for the names. -/
theorem bodies₀ {F : FTy → Type} [FloatOps F] : Cert.Kernel.defs₀ (F := F) = Cert.KernelIdeal.defs₀ (F := F) := by
  refine congrArg (Defs.onTc (Λ := Cert.Kernel.Λ₀)) (funext fun l => funext fun a => ?_)
  match l with
  | 0 => rfl
/-- So have they with the pipeline's bodies added. -/
theorem bodies {F : FTy → Type} [FloatOps F] : Cert.Kernel.defs (F := F) = Cert.KernelIdeal.defs (F := F) :=
  congrArg (Pipeline.defs (Cert.Kernel.pcfgs (F := F))) bodies₀

/-- At any float instance the kernel ends with its arguments unchanged and every semaphore at zero. -/
theorem frame_any {F : FTy → Type} [FloatOps F]
    (m : (ℓ : Loc Cert.KernelIdeal.nD Cert.KernelIdeal.τ Cert.KernelIdeal.sig) → Buf (Elt F) ℓ) (ρ : Dev Cert.KernelIdeal.nD → PrngReg) :
    θ_run (Cert.KernelIdeal.defs (F := F)) (onTc (τ := Cert.KernelIdeal.τ) (Cert.KernelIdeal.main (F := F))) ⟨m, fun _ => 0, ρ⟩
      (fun r => (∀ c : Dev Cert.KernelIdeal.nD,
        r.2.mem ((c.tc : Thread Cert.KernelIdeal.nD Cert.KernelIdeal.τ).loc Cert.KernelIdeal.main_arg0)
            = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1)
            = m ((c.tc : Thread Cert.KernelIdeal.nD Cert.KernelIdeal.τ).loc Cert.KernelIdeal.main_arg1))
        ∧ r.2.sem = fun _ => 0) :=
  (θ_run Cert.KernelIdeal.defs _ _).mono (fun _ h => ⟨fun c => (h.1 c).2, h.2⟩) (Cert.Gather.run_main m ρ)

/-- The kernel at machine floats ends with its arguments unchanged and every semaphore at zero. -/
theorem frame_kernel : Cert.quiescent_Kernel := fun m ρ _ => by
  have h := frame_any (F := Bits) m ρ
  rw [← bodies] at h
  exact h

/-- So does the kernel at exact arithmetic. -/
theorem frame_ideal : Cert.quiescent_KernelIdeal := fun m ρ _ => frame_any (F := Ideal) m ρ

/-- The reference ends with its arguments unchanged and every semaphore at zero. -/
theorem frame_reference : Cert.quiescent_ReferenceIdeal := fun m ρ _ =>
  (θ_run Cert.ReferenceIdeal.defs _ _).mono
    (fun r h => ⟨fun c => (h c).2, sem_eq_zero_of_no_sems (by decide) r.2⟩)
    (Cert.ReferenceIdeal.Value.run m ρ)

/-- From operands cut over the devices as claimed, every device ends with the reference's result. -/
theorem value : Cert.algebraic_KernelIdeal_ReferenceIdeal := fun m g m' g' _ hin =>
  ⟨_, (θ_run Cert.KernelIdeal.defs _ _).mono
      (fun _ h c => ⟨(h.1 c).1.trans
        (Cert.Gather.prod_eq m _ _ (fun c => (hin c).1) (fun c => (hin c).2) Cert.ReferenceIdeal.Facts₀.bitsLt_bf16_f32 c), (h.1 c).2⟩)
      (Cert.Gather.run_main (F := Ideal) m g),
    (θ_run Cert.ReferenceIdeal.defs _ _).mono (fun _ h => h 0) (Cert.ReferenceIdeal.Value.run m' g')⟩

/-- All five claims. -/
theorem claim : Cert.Claim := ⟨Cert.Kernel.Gen.facts, Cert.KernelIdeal.Gen.facts, Cert.ReferenceIdeal.Gen.facts,
  frame_kernel, frame_ideal, frame_reference, trivial, value⟩

end Cert.Proof

end
